-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![1024, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S16x64x512 : Shape := ⟨3, ![16, 64, 512]⟩
abbrev S16 : Shape := ⟨1, ![16]⟩
abbrev S_ : Shape := ⟨0, ![]⟩
abbrev S1 : Shape := ⟨1, ![1]⟩
abbrev S64x1024 : Shape := ⟨2, ![64, 1024]⟩
abbrev S1x64x512 : Shape := ⟨3, ![1, 64, 512]⟩
abbrev S256x512 : Shape := ⟨2, ![256, 512]⟩
abbrev S256x1024 : Shape := ⟨2, ![256, 1024]⟩
abbrev S128x512 : Shape := ⟨2, ![128, 512]⟩
abbrev S128x1024 : Shape := ⟨2, ![128, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S1024x512, .bf16⟩
  | .local _ .vmem, ⟨9, _⟩ => ⟨S1024x512, .bf16⟩
  | .local _ .vmem, ⟨10, _⟩ => ⟨S16x64x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let c16_i32_65 : BitVec 32 := 16#32
  let v71 : BitVec 32 := Scalar.remsi v70 c16_i32_65
  let c1_i32_67 : BitVec 32 := 1#32
  let v72 : BitVec 32 := Scalar.muli v71 c1_i32_67
  let v73 : BitVec 32 := Scalar.addi c0_i32_68 v72
  v73.toNat
def k0_dev17 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_72 : BitVec 32 := 2#32
  let v80 : BitVec 32 := Scalar.addi v2 c2_i32_72
  let c16_i32_73 : BitVec 32 := 16#32
  let v81 : BitVec 32 := Scalar.remsi v80 c16_i32_73
  let c1_i32_75 : BitVec 32 := 1#32
  let v82 : BitVec 32 := Scalar.muli v81 c1_i32_75
  let v83 : BitVec 32 := Scalar.addi c0_i32_76 v82
  v83.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v90 : BitVec 32 := Scalar.addi v2 c3_i32_80
  let c16_i32_81 : BitVec 32 := 16#32
  let v91 : BitVec 32 := Scalar.remsi v90 c16_i32_81
  let c1_i32_83 : BitVec 32 := 1#32
  let v92 : BitVec 32 := Scalar.muli v91 c1_i32_83
  let v93 : BitVec 32 := Scalar.addi c0_i32_84 v92
  v93.toNat
def k0_dev19 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_88 : BitVec 32 := 4#32
  let v100 : BitVec 32 := Scalar.addi v2 c4_i32_88
  let c16_i32_89 : BitVec 32 := 16#32
  let v101 : BitVec 32 := Scalar.remsi v100 c16_i32_89
  let c1_i32_91 : BitVec 32 := 1#32
  let v102 : BitVec 32 := Scalar.muli v101 c1_i32_91
  let v103 : BitVec 32 := Scalar.addi c0_i32_92 v102
  v103.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_96 : BitVec 32 := 5#32
  let v110 : BitVec 32 := Scalar.addi v2 c5_i32_96
  let c16_i32_97 : BitVec 32 := 16#32
  let v111 : BitVec 32 := Scalar.remsi v110 c16_i32_97
  let c1_i32_99 : BitVec 32 := 1#32
  let v112 : BitVec 32 := Scalar.muli v111 c1_i32_99
  let v113 : BitVec 32 := Scalar.addi c0_i32_100 v112
  v113.toNat
def k0_dev21 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_104 : BitVec 32 := 6#32
  let v120 : BitVec 32 := Scalar.addi v2 c6_i32_104
  let c16_i32_105 : BitVec 32 := 16#32
  let v121 : BitVec 32 := Scalar.remsi v120 c16_i32_105
  let c1_i32_107 : BitVec 32 := 1#32
  let v122 : BitVec 32 := Scalar.muli v121 c1_i32_107
  let v123 : BitVec 32 := Scalar.addi c0_i32_108 v122
  v123.toNat
def k0_dev22 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_112 : BitVec 32 := 7#32
  let v130 : BitVec 32 := Scalar.addi v2 c7_i32_112
  let c16_i32_113 : BitVec 32 := 16#32
  let v131 : BitVec 32 := Scalar.remsi v130 c16_i32_113
  let c1_i32_115 : BitVec 32 := 1#32
  let v132 : BitVec 32 := Scalar.muli v131 c1_i32_115
  let v133 : BitVec 32 := Scalar.addi c0_i32_116 v132
  v133.toNat
def k0_dev23 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_120 : BitVec 32 := 8#32
  let v140 : BitVec 32 := Scalar.addi v2 c8_i32_120
  let c16_i32_121 : BitVec 32 := 16#32
  let v141 : BitVec 32 := Scalar.remsi v140 c16_i32_121
  let c1_i32_123 : BitVec 32 := 1#32
  let v142 : BitVec 32 := Scalar.muli v141 c1_i32_123
  let v143 : BitVec 32 := Scalar.addi c0_i32_124 v142
  v143.toNat
def k0_dev24 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_128 : BitVec 32 := 9#32
  let v150 : BitVec 32 := Scalar.addi v2 c9_i32_128
  let c16_i32_129 : BitVec 32 := 16#32
  let v151 : BitVec 32 := Scalar.remsi v150 c16_i32_129
  let c1_i32_131 : BitVec 32 := 1#32
  let v152 : BitVec 32 := Scalar.muli v151 c1_i32_131
  let v153 : BitVec 32 := Scalar.addi c0_i32_132 v152
  v153.toNat
def k0_dev25 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_136 : BitVec 32 := 10#32
  let v160 : BitVec 32 := Scalar.addi v2 c10_i32_136
  let c16_i32_137 : BitVec 32 := 16#32
  let v161 : BitVec 32 := Scalar.remsi v160 c16_i32_137
  let c1_i32_139 : BitVec 32 := 1#32
  let v162 : BitVec 32 := Scalar.muli v161 c1_i32_139
  let v163 : BitVec 32 := Scalar.addi c0_i32_140 v162
  v163.toNat
def k0_dev26 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_144 : BitVec 32 := 11#32
  let v170 : BitVec 32 := Scalar.addi v2 c11_i32_144
  let c16_i32_145 : BitVec 32 := 16#32
  let v171 : BitVec 32 := Scalar.remsi v170 c16_i32_145
  let c1_i32_147 : BitVec 32 := 1#32
  let v172 : BitVec 32 := Scalar.muli v171 c1_i32_147
  let v173 : BitVec 32 := Scalar.addi c0_i32_148 v172
  v173.toNat
def k0_dev27 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_152 : BitVec 32 := 12#32
  let v180 : BitVec 32 := Scalar.addi v2 c12_i32_152
  let c16_i32_153 : BitVec 32 := 16#32
  let v181 : BitVec 32 := Scalar.remsi v180 c16_i32_153
  let c1_i32_155 : BitVec 32 := 1#32
  let v182 : BitVec 32 := Scalar.muli v181 c1_i32_155
  let v183 : BitVec 32 := Scalar.addi c0_i32_156 v182
  v183.toNat
def k0_dev28 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_160 : BitVec 32 := 13#32
  let v190 : BitVec 32 := Scalar.addi v2 c13_i32_160
  let c16_i32_161 : BitVec 32 := 16#32
  let v191 : BitVec 32 := Scalar.remsi v190 c16_i32_161
  let c1_i32_163 : BitVec 32 := 1#32
  let v192 : BitVec 32 := Scalar.muli v191 c1_i32_163
  let v193 : BitVec 32 := Scalar.addi c0_i32_164 v192
  v193.toNat
def k0_dev29 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_168 : BitVec 32 := 14#32
  let v200 : BitVec 32 := Scalar.addi v2 c14_i32_168
  let c16_i32_169 : BitVec 32 := 16#32
  let v201 : BitVec 32 := Scalar.remsi v200 c16_i32_169
  let c1_i32_171 : BitVec 32 := 1#32
  let v202 : BitVec 32 := Scalar.muli v201 c1_i32_171
  let v203 : BitVec 32 := Scalar.addi c0_i32_172 v202
  v203.toNat
def k0_dev30 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_176 : BitVec 32 := 15#32
  let v210 : BitVec 32 := Scalar.addi v2 c15_i32_176
  let c16_i32_177 : BitVec 32 := 16#32
  let v211 : BitVec 32 := Scalar.remsi v210 c16_i32_177
  let c1_i32_179 : BitVec 32 := 1#32
  let v212 : BitVec 32 := Scalar.muli v211 c1_i32_179
  let v213 : BitVec 32 := Scalar.addi c0_i32_180 v212
  v213.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v235 : Index := Scalar.indexCast v2
  let c0_196 : Index := 0#32
  let c0_197 : Index := 0#32
  ![v235.toNat, 0, 0]
def k0_off3 (d0 : Dev nD) (c1_i32_198 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c1_i32_198
  let c16_i32_199 : BitVec 32 := 16#32
  let v240 : BitVec 32 := Scalar.remsi v239 c16_i32_199
  ![v240.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_249 : BitVec 32 := 0#32
  let c0_i32_250 : BitVec 32 := 0#32
  ![v2.toNat, 0, 0]
def k0_dev31 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_244 : BitVec 32 := 1#32
  let v285 : BitVec 32 := Scalar.addi v2 c1_i32_244
  let c16_i32_245 : BitVec 32 := 16#32
  let v286 : BitVec 32 := Scalar.remsi v285 c16_i32_245
  let c1_i32_247 : BitVec 32 := 1#32
  let v287 : BitVec 32 := Scalar.muli v286 c1_i32_247
  let v288 : BitVec 32 := Scalar.addi c0_i32_248 v287
  v288.toNat
def k0_dev32 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_253 : BitVec 32 := 2#32
  let v296 : BitVec 32 := Scalar.addi v2 c2_i32_253
  let c16_i32_254 : BitVec 32 := 16#32
  let v297 : BitVec 32 := Scalar.remsi v296 c16_i32_254
  let c1_i32_256 : BitVec 32 := 1#32
  let v298 : BitVec 32 := Scalar.muli v297 c1_i32_256
  let v299 : BitVec 32 := Scalar.addi c0_i32_257 v298
  v299.toNat
def k0_dev33 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_262 : BitVec 32 := 3#32
  let v307 : BitVec 32 := Scalar.addi v2 c3_i32_262
  let c16_i32_263 : BitVec 32 := 16#32
  let v308 : BitVec 32 := Scalar.remsi v307 c16_i32_263
  let c1_i32_265 : BitVec 32 := 1#32
  let v309 : BitVec 32 := Scalar.muli v308 c1_i32_265
  let v310 : BitVec 32 := Scalar.addi c0_i32_266 v309
  v310.toNat
def k0_dev34 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_271 : BitVec 32 := 4#32
  let v318 : BitVec 32 := Scalar.addi v2 c4_i32_271
  let c16_i32_272 : BitVec 32 := 16#32
  let v319 : BitVec 32 := Scalar.remsi v318 c16_i32_272
  let c1_i32_274 : BitVec 32 := 1#32
  let v320 : BitVec 32 := Scalar.muli v319 c1_i32_274
  let v321 : BitVec 32 := Scalar.addi c0_i32_275 v320
  v321.toNat
def k0_dev35 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_326 : BitVec 32 := 5#32
  let v375 : BitVec 32 := Scalar.addi v2 c5_i32_326
  let c16_i32_327 : BitVec 32 := 16#32
  let v376 : BitVec 32 := Scalar.remsi v375 c16_i32_327
  let c1_i32_329 : BitVec 32 := 1#32
  let v377 : BitVec 32 := Scalar.muli v376 c1_i32_329
  let v378 : BitVec 32 := Scalar.addi c0_i32_330 v377
  v378.toNat
def k0_dev36 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_335 : BitVec 32 := 6#32
  let v386 : BitVec 32 := Scalar.addi v2 c6_i32_335
  let c16_i32_336 : BitVec 32 := 16#32
  let v387 : BitVec 32 := Scalar.remsi v386 c16_i32_336
  let c1_i32_338 : BitVec 32 := 1#32
  let v388 : BitVec 32 := Scalar.muli v387 c1_i32_338
  let v389 : BitVec 32 := Scalar.addi c0_i32_339 v388
  v389.toNat
def k0_dev37 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_344 : BitVec 32 := 7#32
  let v397 : BitVec 32 := Scalar.addi v2 c7_i32_344
  let c16_i32_345 : BitVec 32 := 16#32
  let v398 : BitVec 32 := Scalar.remsi v397 c16_i32_345
  let c1_i32_347 : BitVec 32 := 1#32
  let v399 : BitVec 32 := Scalar.muli v398 c1_i32_347
  let v400 : BitVec 32 := Scalar.addi c0_i32_348 v399
  v400.toNat
def k0_dev38 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_353 : BitVec 32 := 8#32
  let v408 : BitVec 32 := Scalar.addi v2 c8_i32_353
  let c16_i32_354 : BitVec 32 := 16#32
  let v409 : BitVec 32 := Scalar.remsi v408 c16_i32_354
  let c1_i32_356 : BitVec 32 := 1#32
  let v410 : BitVec 32 := Scalar.muli v409 c1_i32_356
  let v411 : BitVec 32 := Scalar.addi c0_i32_357 v410
  v411.toNat
def k0_dev39 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_408 : BitVec 32 := 9#32
  let v465 : BitVec 32 := Scalar.addi v2 c9_i32_408
  let c16_i32_409 : BitVec 32 := 16#32
  let v466 : BitVec 32 := Scalar.remsi v465 c16_i32_409
  let c1_i32_411 : BitVec 32 := 1#32
  let v467 : BitVec 32 := Scalar.muli v466 c1_i32_411
  let v468 : BitVec 32 := Scalar.addi c0_i32_412 v467
  v468.toNat
def k0_dev40 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_417 : BitVec 32 := 10#32
  let v476 : BitVec 32 := Scalar.addi v2 c10_i32_417
  let c16_i32_418 : BitVec 32 := 16#32
  let v477 : BitVec 32 := Scalar.remsi v476 c16_i32_418
  let c1_i32_420 : BitVec 32 := 1#32
  let v478 : BitVec 32 := Scalar.muli v477 c1_i32_420
  let v479 : BitVec 32 := Scalar.addi c0_i32_421 v478
  v479.toNat
def k0_dev41 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_426 : BitVec 32 := 11#32
  let v487 : BitVec 32 := Scalar.addi v2 c11_i32_426
  let c16_i32_427 : BitVec 32 := 16#32
  let v488 : BitVec 32 := Scalar.remsi v487 c16_i32_427
  let c1_i32_429 : BitVec 32 := 1#32
  let v489 : BitVec 32 := Scalar.muli v488 c1_i32_429
  let v490 : BitVec 32 := Scalar.addi c0_i32_430 v489
  v490.toNat
def k0_dev42 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_435 : BitVec 32 := 12#32
  let v498 : BitVec 32 := Scalar.addi v2 c12_i32_435
  let c16_i32_436 : BitVec 32 := 16#32
  let v499 : BitVec 32 := Scalar.remsi v498 c16_i32_436
  let c1_i32_438 : BitVec 32 := 1#32
  let v500 : BitVec 32 := Scalar.muli v499 c1_i32_438
  let v501 : BitVec 32 := Scalar.addi c0_i32_439 v500
  v501.toNat
def k0_dev43 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_472 : BitVec 32 := 13#32
  let v539 : BitVec 32 := Scalar.addi v2 c13_i32_472
  let c16_i32_473 : BitVec 32 := 16#32
  let v540 : BitVec 32 := Scalar.remsi v539 c16_i32_473
  let c1_i32_475 : BitVec 32 := 1#32
  let v541 : BitVec 32 := Scalar.muli v540 c1_i32_475
  let v542 : BitVec 32 := Scalar.addi c0_i32_476 v541
  v542.toNat
def k0_dev44 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_481 : BitVec 32 := 14#32
  let v550 : BitVec 32 := Scalar.addi v2 c14_i32_481
  let c16_i32_482 : BitVec 32 := 16#32
  let v551 : BitVec 32 := Scalar.remsi v550 c16_i32_482
  let c1_i32_484 : BitVec 32 := 1#32
  let v552 : BitVec 32 := Scalar.muli v551 c1_i32_484
  let v553 : BitVec 32 := Scalar.addi c0_i32_485 v552
  v553.toNat
def k0_dev45 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_509 : BitVec 32 := 15#32
  let v583 : BitVec 32 := Scalar.addi v2 c15_i32_509
  let c16_i32_510 : BitVec 32 := 16#32
  let v584 : BitVec 32 := Scalar.remsi v583 c16_i32_510
  let c1_i32_512 : BitVec 32 := 1#32
  let v585 : BitVec 32 := Scalar.muli v584 c1_i32_512
  let v586 : BitVec 32 := Scalar.addi c0_i32_513 v585
  v586.toNat
def k0_off5 (d0 : Dev nD) (c1_i32_518 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v594 : BitVec 32 := Scalar.addi v2 c1_i32_518
  let c16_i32_519 : BitVec 32 := 16#32
  let v595 : BitVec 32 := Scalar.remsi v594 c16_i32_519
  let c0_i32_523 : BitVec 32 := 0#32
  let c0_i32_524 : BitVec 32 := 0#32
  ![v595.toNat, 0, 0]
def k0_dev46 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_839 : BitVec 32 := 1#32
  let v871 : BitVec 32 := Scalar.addi v2 c1_i32_839
  let c16_i32_840 : BitVec 32 := 16#32
  let v872 : BitVec 32 := Scalar.remsi v871 c16_i32_840
  let c1_i32_842 : BitVec 32 := 1#32
  let v873 : BitVec 32 := Scalar.muli v872 c1_i32_842
  let v874 : BitVec 32 := Scalar.addi c0_i32_843 v873
  v874.toNat
def k0_dev47 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_848 : BitVec 32 := 2#32
  let v881 : BitVec 32 := Scalar.addi v2 c2_i32_848
  let c16_i32_849 : BitVec 32 := 16#32
  let v882 : BitVec 32 := Scalar.remsi v881 c16_i32_849
  let c1_i32_851 : BitVec 32 := 1#32
  let v883 : BitVec 32 := Scalar.muli v882 c1_i32_851
  let v884 : BitVec 32 := Scalar.addi c0_i32_852 v883
  v884.toNat
def k0_dev48 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_857 : BitVec 32 := 3#32
  let v891 : BitVec 32 := Scalar.addi v2 c3_i32_857
  let c16_i32_858 : BitVec 32 := 16#32
  let v892 : BitVec 32 := Scalar.remsi v891 c16_i32_858
  let c1_i32_860 : BitVec 32 := 1#32
  let v893 : BitVec 32 := Scalar.muli v892 c1_i32_860
  let v894 : BitVec 32 := Scalar.addi c0_i32_861 v893
  v894.toNat
def k0_dev49 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_866 : BitVec 32 := 4#32
  let v901 : BitVec 32 := Scalar.addi v2 c4_i32_866
  let c16_i32_867 : BitVec 32 := 16#32
  let v902 : BitVec 32 := Scalar.remsi v901 c16_i32_867
  let c1_i32_869 : BitVec 32 := 1#32
  let v903 : BitVec 32 := Scalar.muli v902 c1_i32_869
  let v904 : BitVec 32 := Scalar.addi c0_i32_870 v903
  v904.toNat
def k0_dev50 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_875 : BitVec 32 := 5#32
  let v911 : BitVec 32 := Scalar.addi v2 c5_i32_875
  let c16_i32_876 : BitVec 32 := 16#32
  let v912 : BitVec 32 := Scalar.remsi v911 c16_i32_876
  let c1_i32_878 : BitVec 32 := 1#32
  let v913 : BitVec 32 := Scalar.muli v912 c1_i32_878
  let v914 : BitVec 32 := Scalar.addi c0_i32_879 v913
  v914.toNat
def k0_dev51 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_884 : BitVec 32 := 6#32
  let v921 : BitVec 32 := Scalar.addi v2 c6_i32_884
  let c16_i32_885 : BitVec 32 := 16#32
  let v922 : BitVec 32 := Scalar.remsi v921 c16_i32_885
  let c1_i32_887 : BitVec 32 := 1#32
  let v923 : BitVec 32 := Scalar.muli v922 c1_i32_887
  let v924 : BitVec 32 := Scalar.addi c0_i32_888 v923
  v924.toNat
def k0_dev52 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_893 : BitVec 32 := 7#32
  let v931 : BitVec 32 := Scalar.addi v2 c7_i32_893
  let c16_i32_894 : BitVec 32 := 16#32
  let v932 : BitVec 32 := Scalar.remsi v931 c16_i32_894
  let c1_i32_896 : BitVec 32 := 1#32
  let v933 : BitVec 32 := Scalar.muli v932 c1_i32_896
  let v934 : BitVec 32 := Scalar.addi c0_i32_897 v933
  v934.toNat
def k0_dev53 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_902 : BitVec 32 := 8#32
  let v941 : BitVec 32 := Scalar.addi v2 c8_i32_902
  let c16_i32_903 : BitVec 32 := 16#32
  let v942 : BitVec 32 := Scalar.remsi v941 c16_i32_903
  let c1_i32_905 : BitVec 32 := 1#32
  let v943 : BitVec 32 := Scalar.muli v942 c1_i32_905
  let v944 : BitVec 32 := Scalar.addi c0_i32_906 v943
  v944.toNat
def k0_dev54 (d0 : Dev nD) : Nat :=
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_911 : BitVec 32 := 9#32
  let v951 : BitVec 32 := Scalar.addi v2 c9_i32_911
  let c16_i32_912 : BitVec 32 := 16#32
  let v952 : BitVec 32 := Scalar.remsi v951 c16_i32_912
  let c1_i32_914 : BitVec 32 := 1#32
  let v953 : BitVec 32 := Scalar.muli v952 c1_i32_914
  let v954 : BitVec 32 := Scalar.addi c0_i32_915 v953
  v954.toNat
def k0_dev55 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_920 : BitVec 32 := 10#32
  let v961 : BitVec 32 := Scalar.addi v2 c10_i32_920
  let c16_i32_921 : BitVec 32 := 16#32
  let v962 : BitVec 32 := Scalar.remsi v961 c16_i32_921
  let c1_i32_923 : BitVec 32 := 1#32
  let v963 : BitVec 32 := Scalar.muli v962 c1_i32_923
  let v964 : BitVec 32 := Scalar.addi c0_i32_924 v963
  v964.toNat
def k0_dev56 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_929 : BitVec 32 := 11#32
  let v971 : BitVec 32 := Scalar.addi v2 c11_i32_929
  let c16_i32_930 : BitVec 32 := 16#32
  let v972 : BitVec 32 := Scalar.remsi v971 c16_i32_930
  let c1_i32_932 : BitVec 32 := 1#32
  let v973 : BitVec 32 := Scalar.muli v972 c1_i32_932
  let v974 : BitVec 32 := Scalar.addi c0_i32_933 v973
  v974.toNat
def k0_dev57 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_938 : BitVec 32 := 12#32
  let v981 : BitVec 32 := Scalar.addi v2 c12_i32_938
  let c16_i32_939 : BitVec 32 := 16#32
  let v982 : BitVec 32 := Scalar.remsi v981 c16_i32_939
  let c1_i32_941 : BitVec 32 := 1#32
  let v983 : BitVec 32 := Scalar.muli v982 c1_i32_941
  let v984 : BitVec 32 := Scalar.addi c0_i32_942 v983
  v984.toNat
def k0_dev58 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_947 : BitVec 32 := 13#32
  let v991 : BitVec 32 := Scalar.addi v2 c13_i32_947
  let c16_i32_948 : BitVec 32 := 16#32
  let v992 : BitVec 32 := Scalar.remsi v991 c16_i32_948
  let c1_i32_950 : BitVec 32 := 1#32
  let v993 : BitVec 32 := Scalar.muli v992 c1_i32_950
  let v994 : BitVec 32 := Scalar.addi c0_i32_951 v993
  v994.toNat
def k0_dev59 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_956 : BitVec 32 := 14#32
  let v1001 : BitVec 32 := Scalar.addi v2 c14_i32_956
  let c16_i32_957 : BitVec 32 := 16#32
  let v1002 : BitVec 32 := Scalar.remsi v1001 c16_i32_957
  let c1_i32_959 : BitVec 32 := 1#32
  let v1003 : BitVec 32 := Scalar.muli v1002 c1_i32_959
  let v1004 : BitVec 32 := Scalar.addi c0_i32_960 v1003
  v1004.toNat
def k0_dev60 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_965 : BitVec 32 := 15#32
  let v1011 : BitVec 32 := Scalar.addi v2 c15_i32_965
  let c16_i32_966 : BitVec 32 := 16#32
  let v1012 : BitVec 32 := Scalar.remsi v1011 c16_i32_966
  let c1_i32_968 : BitVec 32 := 1#32
  let v1013 : BitVec 32 := Scalar.muli v1012 c1_i32_968
  let v1014 : BitVec 32 := Scalar.addi c0_i32_969 v1013
  v1014.toNat
def k0_dev61 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1036 : BitVec 32 := 1#32
  let v1086 : BitVec 32 := Scalar.addi v2 c1_i32_1036
  let c16_i32_1037 : BitVec 32 := 16#32
  let v1087 : BitVec 32 := Scalar.remsi v1086 c16_i32_1037
  let c1_i32_1039 : BitVec 32 := 1#32
  let v1088 : BitVec 32 := Scalar.muli v1087 c1_i32_1039
  let v1089 : BitVec 32 := Scalar.addi c0_i32_1040 v1088
  v1089.toNat
def k0_dev62 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1045 : BitVec 32 := 2#32
  let v1097 : BitVec 32 := Scalar.addi v2 c2_i32_1045
  let c16_i32_1046 : BitVec 32 := 16#32
  let v1098 : BitVec 32 := Scalar.remsi v1097 c16_i32_1046
  let c1_i32_1048 : BitVec 32 := 1#32
  let v1099 : BitVec 32 := Scalar.muli v1098 c1_i32_1048
  let v1100 : BitVec 32 := Scalar.addi c0_i32_1049 v1099
  v1100.toNat
def k0_dev63 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1054 : BitVec 32 := 3#32
  let v1108 : BitVec 32 := Scalar.addi v2 c3_i32_1054
  let c16_i32_1055 : BitVec 32 := 16#32
  let v1109 : BitVec 32 := Scalar.remsi v1108 c16_i32_1055
  let c1_i32_1057 : BitVec 32 := 1#32
  let v1110 : BitVec 32 := Scalar.muli v1109 c1_i32_1057
  let v1111 : BitVec 32 := Scalar.addi c0_i32_1058 v1110
  v1111.toNat
def k0_dev64 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1063 : BitVec 32 := 4#32
  let v1119 : BitVec 32 := Scalar.addi v2 c4_i32_1063
  let c16_i32_1064 : BitVec 32 := 16#32
  let v1120 : BitVec 32 := Scalar.remsi v1119 c16_i32_1064
  let c1_i32_1066 : BitVec 32 := 1#32
  let v1121 : BitVec 32 := Scalar.muli v1120 c1_i32_1066
  let v1122 : BitVec 32 := Scalar.addi c0_i32_1067 v1121
  v1122.toNat
def k0_dev65 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1119 : BitVec 32 := 5#32
  let v1176 : BitVec 32 := Scalar.addi v2 c5_i32_1119
  let c16_i32_1120 : BitVec 32 := 16#32
  let v1177 : BitVec 32 := Scalar.remsi v1176 c16_i32_1120
  let c1_i32_1122 : BitVec 32 := 1#32
  let v1178 : BitVec 32 := Scalar.muli v1177 c1_i32_1122
  let v1179 : BitVec 32 := Scalar.addi c0_i32_1123 v1178
  v1179.toNat
def k0_dev66 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1128 : BitVec 32 := 6#32
  let v1187 : BitVec 32 := Scalar.addi v2 c6_i32_1128
  let c16_i32_1129 : BitVec 32 := 16#32
  let v1188 : BitVec 32 := Scalar.remsi v1187 c16_i32_1129
  let c1_i32_1131 : BitVec 32 := 1#32
  let v1189 : BitVec 32 := Scalar.muli v1188 c1_i32_1131
  let v1190 : BitVec 32 := Scalar.addi c0_i32_1132 v1189
  v1190.toNat
def k0_dev67 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1137 : BitVec 32 := 7#32
  let v1198 : BitVec 32 := Scalar.addi v2 c7_i32_1137
  let c16_i32_1138 : BitVec 32 := 16#32
  let v1199 : BitVec 32 := Scalar.remsi v1198 c16_i32_1138
  let c1_i32_1140 : BitVec 32 := 1#32
  let v1200 : BitVec 32 := Scalar.muli v1199 c1_i32_1140
  let v1201 : BitVec 32 := Scalar.addi c0_i32_1141 v1200
  v1201.toNat
def k0_dev68 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1146 : BitVec 32 := 8#32
  let v1209 : BitVec 32 := Scalar.addi v2 c8_i32_1146
  let c16_i32_1147 : BitVec 32 := 16#32
  let v1210 : BitVec 32 := Scalar.remsi v1209 c16_i32_1147
  let c1_i32_1149 : BitVec 32 := 1#32
  let v1211 : BitVec 32 := Scalar.muli v1210 c1_i32_1149
  let v1212 : BitVec 32 := Scalar.addi c0_i32_1150 v1211
  v1212.toNat
def k0_dev69 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1202 : BitVec 32 := 9#32
  let v1266 : BitVec 32 := Scalar.addi v2 c9_i32_1202
  let c16_i32_1203 : BitVec 32 := 16#32
  let v1267 : BitVec 32 := Scalar.remsi v1266 c16_i32_1203
  let c1_i32_1205 : BitVec 32 := 1#32
  let v1268 : BitVec 32 := Scalar.muli v1267 c1_i32_1205
  let v1269 : BitVec 32 := Scalar.addi c0_i32_1206 v1268
  v1269.toNat
def k0_dev70 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1211 : BitVec 32 := 10#32
  let v1277 : BitVec 32 := Scalar.addi v2 c10_i32_1211
  let c16_i32_1212 : BitVec 32 := 16#32
  let v1278 : BitVec 32 := Scalar.remsi v1277 c16_i32_1212
  let c1_i32_1214 : BitVec 32 := 1#32
  let v1279 : BitVec 32 := Scalar.muli v1278 c1_i32_1214
  let v1280 : BitVec 32 := Scalar.addi c0_i32_1215 v1279
  v1280.toNat
def k0_dev71 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1220 : BitVec 32 := 11#32
  let v1288 : BitVec 32 := Scalar.addi v2 c11_i32_1220
  let c16_i32_1221 : BitVec 32 := 16#32
  let v1289 : BitVec 32 := Scalar.remsi v1288 c16_i32_1221
  let c1_i32_1223 : BitVec 32 := 1#32
  let v1290 : BitVec 32 := Scalar.muli v1289 c1_i32_1223
  let v1291 : BitVec 32 := Scalar.addi c0_i32_1224 v1290
  v1291.toNat
def k0_dev72 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1229 : BitVec 32 := 12#32
  let v1299 : BitVec 32 := Scalar.addi v2 c12_i32_1229
  let c16_i32_1230 : BitVec 32 := 16#32
  let v1300 : BitVec 32 := Scalar.remsi v1299 c16_i32_1230
  let c1_i32_1232 : BitVec 32 := 1#32
  let v1301 : BitVec 32 := Scalar.muli v1300 c1_i32_1232
  let v1302 : BitVec 32 := Scalar.addi c0_i32_1233 v1301
  v1302.toNat
def k0_dev73 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1267 : BitVec 32 := 13#32
  let v1340 : BitVec 32 := Scalar.addi v2 c13_i32_1267
  let c16_i32_1268 : BitVec 32 := 16#32
  let v1341 : BitVec 32 := Scalar.remsi v1340 c16_i32_1268
  let c1_i32_1270 : BitVec 32 := 1#32
  let v1342 : BitVec 32 := Scalar.muli v1341 c1_i32_1270
  let v1343 : BitVec 32 := Scalar.addi c0_i32_1271 v1342
  v1343.toNat
def k0_dev74 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1276 : BitVec 32 := 14#32
  let v1351 : BitVec 32 := Scalar.addi v2 c14_i32_1276
  let c16_i32_1277 : BitVec 32 := 16#32
  let v1352 : BitVec 32 := Scalar.remsi v1351 c16_i32_1277
  let c1_i32_1279 : BitVec 32 := 1#32
  let v1353 : BitVec 32 := Scalar.muli v1352 c1_i32_1279
  let v1354 : BitVec 32 := Scalar.addi c0_i32_1280 v1353
  v1354.toNat
def k0_dev75 (d0 : Dev nD) : Nat :=
  let c0_i32_1309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1305 : BitVec 32 := 15#32
  let v1384 : BitVec 32 := Scalar.addi v2 c15_i32_1305
  let c16_i32_1306 : BitVec 32 := 16#32
  let v1385 : BitVec 32 := Scalar.remsi v1384 c16_i32_1306
  let c1_i32_1308 : BitVec 32 := 1#32
  let v1386 : BitVec 32 := Scalar.muli v1385 c1_i32_1308
  let v1387 : BitVec 32 := Scalar.addi c0_i32_1309 v1386
  v1387.toNat
def k0_dev76 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1635 : BitVec 32 := 1#32
  let v1672 : BitVec 32 := Scalar.addi v2 c1_i32_1635
  let c16_i32_1636 : BitVec 32 := 16#32
  let v1673 : BitVec 32 := Scalar.remsi v1672 c16_i32_1636
  let c1_i32_1638 : BitVec 32 := 1#32
  let v1674 : BitVec 32 := Scalar.muli v1673 c1_i32_1638
  let v1675 : BitVec 32 := Scalar.addi c0_i32_1639 v1674
  v1675.toNat
def k0_dev77 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1644 : BitVec 32 := 2#32
  let v1682 : BitVec 32 := Scalar.addi v2 c2_i32_1644
  let c16_i32_1645 : BitVec 32 := 16#32
  let v1683 : BitVec 32 := Scalar.remsi v1682 c16_i32_1645
  let c1_i32_1647 : BitVec 32 := 1#32
  let v1684 : BitVec 32 := Scalar.muli v1683 c1_i32_1647
  let v1685 : BitVec 32 := Scalar.addi c0_i32_1648 v1684
  v1685.toNat
def k0_dev78 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1653 : BitVec 32 := 3#32
  let v1692 : BitVec 32 := Scalar.addi v2 c3_i32_1653
  let c16_i32_1654 : BitVec 32 := 16#32
  let v1693 : BitVec 32 := Scalar.remsi v1692 c16_i32_1654
  let c1_i32_1656 : BitVec 32 := 1#32
  let v1694 : BitVec 32 := Scalar.muli v1693 c1_i32_1656
  let v1695 : BitVec 32 := Scalar.addi c0_i32_1657 v1694
  v1695.toNat
def k0_dev79 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1662 : BitVec 32 := 4#32
  let v1702 : BitVec 32 := Scalar.addi v2 c4_i32_1662
  let c16_i32_1663 : BitVec 32 := 16#32
  let v1703 : BitVec 32 := Scalar.remsi v1702 c16_i32_1663
  let c1_i32_1665 : BitVec 32 := 1#32
  let v1704 : BitVec 32 := Scalar.muli v1703 c1_i32_1665
  let v1705 : BitVec 32 := Scalar.addi c0_i32_1666 v1704
  v1705.toNat
def k0_dev80 (d0 : Dev nD) : Nat :=
  let c0_i32_1675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1671 : BitVec 32 := 5#32
  let v1712 : BitVec 32 := Scalar.addi v2 c5_i32_1671
  let c16_i32_1672 : BitVec 32 := 16#32
  let v1713 : BitVec 32 := Scalar.remsi v1712 c16_i32_1672
  let c1_i32_1674 : BitVec 32 := 1#32
  let v1714 : BitVec 32 := Scalar.muli v1713 c1_i32_1674
  let v1715 : BitVec 32 := Scalar.addi c0_i32_1675 v1714
  v1715.toNat
def k0_dev81 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1680 : BitVec 32 := 6#32
  let v1722 : BitVec 32 := Scalar.addi v2 c6_i32_1680
  let c16_i32_1681 : BitVec 32 := 16#32
  let v1723 : BitVec 32 := Scalar.remsi v1722 c16_i32_1681
  let c1_i32_1683 : BitVec 32 := 1#32
  let v1724 : BitVec 32 := Scalar.muli v1723 c1_i32_1683
  let v1725 : BitVec 32 := Scalar.addi c0_i32_1684 v1724
  v1725.toNat
def k0_dev82 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1689 : BitVec 32 := 7#32
  let v1732 : BitVec 32 := Scalar.addi v2 c7_i32_1689
  let c16_i32_1690 : BitVec 32 := 16#32
  let v1733 : BitVec 32 := Scalar.remsi v1732 c16_i32_1690
  let c1_i32_1692 : BitVec 32 := 1#32
  let v1734 : BitVec 32 := Scalar.muli v1733 c1_i32_1692
  let v1735 : BitVec 32 := Scalar.addi c0_i32_1693 v1734
  v1735.toNat
def k0_dev83 (d0 : Dev nD) : Nat :=
  let c0_i32_1702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1698 : BitVec 32 := 8#32
  let v1742 : BitVec 32 := Scalar.addi v2 c8_i32_1698
  let c16_i32_1699 : BitVec 32 := 16#32
  let v1743 : BitVec 32 := Scalar.remsi v1742 c16_i32_1699
  let c1_i32_1701 : BitVec 32 := 1#32
  let v1744 : BitVec 32 := Scalar.muli v1743 c1_i32_1701
  let v1745 : BitVec 32 := Scalar.addi c0_i32_1702 v1744
  v1745.toNat
def k0_dev84 (d0 : Dev nD) : Nat :=
  let c0_i32_1711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1707 : BitVec 32 := 9#32
  let v1752 : BitVec 32 := Scalar.addi v2 c9_i32_1707
  let c16_i32_1708 : BitVec 32 := 16#32
  let v1753 : BitVec 32 := Scalar.remsi v1752 c16_i32_1708
  let c1_i32_1710 : BitVec 32 := 1#32
  let v1754 : BitVec 32 := Scalar.muli v1753 c1_i32_1710
  let v1755 : BitVec 32 := Scalar.addi c0_i32_1711 v1754
  v1755.toNat
def k0_dev85 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1716 : BitVec 32 := 10#32
  let v1762 : BitVec 32 := Scalar.addi v2 c10_i32_1716
  let c16_i32_1717 : BitVec 32 := 16#32
  let v1763 : BitVec 32 := Scalar.remsi v1762 c16_i32_1717
  let c1_i32_1719 : BitVec 32 := 1#32
  let v1764 : BitVec 32 := Scalar.muli v1763 c1_i32_1719
  let v1765 : BitVec 32 := Scalar.addi c0_i32_1720 v1764
  v1765.toNat
def k0_dev86 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1725 : BitVec 32 := 11#32
  let v1772 : BitVec 32 := Scalar.addi v2 c11_i32_1725
  let c16_i32_1726 : BitVec 32 := 16#32
  let v1773 : BitVec 32 := Scalar.remsi v1772 c16_i32_1726
  let c1_i32_1728 : BitVec 32 := 1#32
  let v1774 : BitVec 32 := Scalar.muli v1773 c1_i32_1728
  let v1775 : BitVec 32 := Scalar.addi c0_i32_1729 v1774
  v1775.toNat
def k0_dev87 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1734 : BitVec 32 := 12#32
  let v1782 : BitVec 32 := Scalar.addi v2 c12_i32_1734
  let c16_i32_1735 : BitVec 32 := 16#32
  let v1783 : BitVec 32 := Scalar.remsi v1782 c16_i32_1735
  let c1_i32_1737 : BitVec 32 := 1#32
  let v1784 : BitVec 32 := Scalar.muli v1783 c1_i32_1737
  let v1785 : BitVec 32 := Scalar.addi c0_i32_1738 v1784
  v1785.toNat
def k0_dev88 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1743 : BitVec 32 := 13#32
  let v1792 : BitVec 32 := Scalar.addi v2 c13_i32_1743
  let c16_i32_1744 : BitVec 32 := 16#32
  let v1793 : BitVec 32 := Scalar.remsi v1792 c16_i32_1744
  let c1_i32_1746 : BitVec 32 := 1#32
  let v1794 : BitVec 32 := Scalar.muli v1793 c1_i32_1746
  let v1795 : BitVec 32 := Scalar.addi c0_i32_1747 v1794
  v1795.toNat
def k0_dev89 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1752 : BitVec 32 := 14#32
  let v1802 : BitVec 32 := Scalar.addi v2 c14_i32_1752
  let c16_i32_1753 : BitVec 32 := 16#32
  let v1803 : BitVec 32 := Scalar.remsi v1802 c16_i32_1753
  let c1_i32_1755 : BitVec 32 := 1#32
  let v1804 : BitVec 32 := Scalar.muli v1803 c1_i32_1755
  let v1805 : BitVec 32 := Scalar.addi c0_i32_1756 v1804
  v1805.toNat
def k0_dev90 (d0 : Dev nD) : Nat :=
  let c0_i32_1765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1761 : BitVec 32 := 15#32
  let v1812 : BitVec 32 := Scalar.addi v2 c15_i32_1761
  let c16_i32_1762 : BitVec 32 := 16#32
  let v1813 : BitVec 32 := Scalar.remsi v1812 c16_i32_1762
  let c1_i32_1764 : BitVec 32 := 1#32
  let v1814 : BitVec 32 := Scalar.muli v1813 c1_i32_1764
  let v1815 : BitVec 32 := Scalar.addi c0_i32_1765 v1814
  v1815.toNat
def k0_dev91 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1887 : BitVec 32 := Scalar.addi v2 c1_i32_1832
  let c16_i32_1833 : BitVec 32 := 16#32
  let v1888 : BitVec 32 := Scalar.remsi v1887 c16_i32_1833
  let c1_i32_1835 : BitVec 32 := 1#32
  let v1889 : BitVec 32 := Scalar.muli v1888 c1_i32_1835
  let v1890 : BitVec 32 := Scalar.addi c0_i32_1836 v1889
  v1890.toNat
def k0_dev92 (d0 : Dev nD) : Nat :=
  let c0_i32_1845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1841 : BitVec 32 := 2#32
  let v1898 : BitVec 32 := Scalar.addi v2 c2_i32_1841
  let c16_i32_1842 : BitVec 32 := 16#32
  let v1899 : BitVec 32 := Scalar.remsi v1898 c16_i32_1842
  let c1_i32_1844 : BitVec 32 := 1#32
  let v1900 : BitVec 32 := Scalar.muli v1899 c1_i32_1844
  let v1901 : BitVec 32 := Scalar.addi c0_i32_1845 v1900
  v1901.toNat
def k0_dev93 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1850 : BitVec 32 := 3#32
  let v1909 : BitVec 32 := Scalar.addi v2 c3_i32_1850
  let c16_i32_1851 : BitVec 32 := 16#32
  let v1910 : BitVec 32 := Scalar.remsi v1909 c16_i32_1851
  let c1_i32_1853 : BitVec 32 := 1#32
  let v1911 : BitVec 32 := Scalar.muli v1910 c1_i32_1853
  let v1912 : BitVec 32 := Scalar.addi c0_i32_1854 v1911
  v1912.toNat
def k0_dev94 (d0 : Dev nD) : Nat :=
  let c0_i32_1863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1859 : BitVec 32 := 4#32
  let v1920 : BitVec 32 := Scalar.addi v2 c4_i32_1859
  let c16_i32_1860 : BitVec 32 := 16#32
  let v1921 : BitVec 32 := Scalar.remsi v1920 c16_i32_1860
  let c1_i32_1862 : BitVec 32 := 1#32
  let v1922 : BitVec 32 := Scalar.muli v1921 c1_i32_1862
  let v1923 : BitVec 32 := Scalar.addi c0_i32_1863 v1922
  v1923.toNat
def k0_dev95 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1915 : BitVec 32 := 5#32
  let v1977 : BitVec 32 := Scalar.addi v2 c5_i32_1915
  let c16_i32_1916 : BitVec 32 := 16#32
  let v1978 : BitVec 32 := Scalar.remsi v1977 c16_i32_1916
  let c1_i32_1918 : BitVec 32 := 1#32
  let v1979 : BitVec 32 := Scalar.muli v1978 c1_i32_1918
  let v1980 : BitVec 32 := Scalar.addi c0_i32_1919 v1979
  v1980.toNat
def k0_dev96 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1924 : BitVec 32 := 6#32
  let v1988 : BitVec 32 := Scalar.addi v2 c6_i32_1924
  let c16_i32_1925 : BitVec 32 := 16#32
  let v1989 : BitVec 32 := Scalar.remsi v1988 c16_i32_1925
  let c1_i32_1927 : BitVec 32 := 1#32
  let v1990 : BitVec 32 := Scalar.muli v1989 c1_i32_1927
  let v1991 : BitVec 32 := Scalar.addi c0_i32_1928 v1990
  v1991.toNat
def k0_dev97 (d0 : Dev nD) : Nat :=
  let c0_i32_1937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1933 : BitVec 32 := 7#32
  let v1999 : BitVec 32 := Scalar.addi v2 c7_i32_1933
  let c16_i32_1934 : BitVec 32 := 16#32
  let v2000 : BitVec 32 := Scalar.remsi v1999 c16_i32_1934
  let c1_i32_1936 : BitVec 32 := 1#32
  let v2001 : BitVec 32 := Scalar.muli v2000 c1_i32_1936
  let v2002 : BitVec 32 := Scalar.addi c0_i32_1937 v2001
  v2002.toNat
def k0_dev98 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1942 : BitVec 32 := 8#32
  let v2010 : BitVec 32 := Scalar.addi v2 c8_i32_1942
  let c16_i32_1943 : BitVec 32 := 16#32
  let v2011 : BitVec 32 := Scalar.remsi v2010 c16_i32_1943
  let c1_i32_1945 : BitVec 32 := 1#32
  let v2012 : BitVec 32 := Scalar.muli v2011 c1_i32_1945
  let v2013 : BitVec 32 := Scalar.addi c0_i32_1946 v2012
  v2013.toNat
def k0_dev99 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1998 : BitVec 32 := 9#32
  let v2067 : BitVec 32 := Scalar.addi v2 c9_i32_1998
  let c16_i32_1999 : BitVec 32 := 16#32
  let v2068 : BitVec 32 := Scalar.remsi v2067 c16_i32_1999
  let c1_i32_2001 : BitVec 32 := 1#32
  let v2069 : BitVec 32 := Scalar.muli v2068 c1_i32_2001
  let v2070 : BitVec 32 := Scalar.addi c0_i32_2002 v2069
  v2070.toNat
def k0_dev100 (d0 : Dev nD) : Nat :=
  let c0_i32_2011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2007 : BitVec 32 := 10#32
  let v2078 : BitVec 32 := Scalar.addi v2 c10_i32_2007
  let c16_i32_2008 : BitVec 32 := 16#32
  let v2079 : BitVec 32 := Scalar.remsi v2078 c16_i32_2008
  let c1_i32_2010 : BitVec 32 := 1#32
  let v2080 : BitVec 32 := Scalar.muli v2079 c1_i32_2010
  let v2081 : BitVec 32 := Scalar.addi c0_i32_2011 v2080
  v2081.toNat
def k0_dev101 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2016 : BitVec 32 := 11#32
  let v2089 : BitVec 32 := Scalar.addi v2 c11_i32_2016
  let c16_i32_2017 : BitVec 32 := 16#32
  let v2090 : BitVec 32 := Scalar.remsi v2089 c16_i32_2017
  let c1_i32_2019 : BitVec 32 := 1#32
  let v2091 : BitVec 32 := Scalar.muli v2090 c1_i32_2019
  let v2092 : BitVec 32 := Scalar.addi c0_i32_2020 v2091
  v2092.toNat
def k0_dev102 (d0 : Dev nD) : Nat :=
  let c0_i32_2029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2025 : BitVec 32 := 12#32
  let v2100 : BitVec 32 := Scalar.addi v2 c12_i32_2025
  let c16_i32_2026 : BitVec 32 := 16#32
  let v2101 : BitVec 32 := Scalar.remsi v2100 c16_i32_2026
  let c1_i32_2028 : BitVec 32 := 1#32
  let v2102 : BitVec 32 := Scalar.muli v2101 c1_i32_2028
  let v2103 : BitVec 32 := Scalar.addi c0_i32_2029 v2102
  v2103.toNat
def k0_dev103 (d0 : Dev nD) : Nat :=
  let c0_i32_2067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2063 : BitVec 32 := 13#32
  let v2141 : BitVec 32 := Scalar.addi v2 c13_i32_2063
  let c16_i32_2064 : BitVec 32 := 16#32
  let v2142 : BitVec 32 := Scalar.remsi v2141 c16_i32_2064
  let c1_i32_2066 : BitVec 32 := 1#32
  let v2143 : BitVec 32 := Scalar.muli v2142 c1_i32_2066
  let v2144 : BitVec 32 := Scalar.addi c0_i32_2067 v2143
  v2144.toNat
def k0_dev104 (d0 : Dev nD) : Nat :=
  let c0_i32_2076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2072 : BitVec 32 := 14#32
  let v2152 : BitVec 32 := Scalar.addi v2 c14_i32_2072
  let c16_i32_2073 : BitVec 32 := 16#32
  let v2153 : BitVec 32 := Scalar.remsi v2152 c16_i32_2073
  let c1_i32_2075 : BitVec 32 := 1#32
  let v2154 : BitVec 32 := Scalar.muli v2153 c1_i32_2075
  let v2155 : BitVec 32 := Scalar.addi c0_i32_2076 v2154
  v2155.toNat
def k0_dev105 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2101 : BitVec 32 := 15#32
  let v2185 : BitVec 32 := Scalar.addi v2 c15_i32_2101
  let c16_i32_2102 : BitVec 32 := 16#32
  let v2186 : BitVec 32 := Scalar.remsi v2185 c16_i32_2102
  let c1_i32_2104 : BitVec 32 := 1#32
  let v2187 : BitVec 32 := Scalar.muli v2186 c1_i32_2104
  let v2188 : BitVec 32 := Scalar.addi c0_i32_2105 v2187
  v2188.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x512 : Shape := ⟨2, ![1024, 512]⟩
abbrev S512x16384 : Shape := ⟨2, ![512, 16384]⟩
abbrev S16384x512 : Shape := ⟨2, ![16384, 512]⟩
abbrev S1024x16384 : Shape := ⟨2, ![1024, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16384, .f32⟩
  | .hbm, ⟨2, _⟩ => ⟨S512x16384, .f32⟩
  | .hbm, ⟨3, _⟩ => ⟨S512x16384, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1024x16384, .f32⟩
  | .hbm, ⟨8, _⟩ => ⟨S_, .f32⟩
  | .hbm, ⟨9, _⟩ => ⟨S1024x16384, .f32⟩
  | .hbm, ⟨10, _⟩ => ⟨S1024x16384, .f32⟩
  | .hbm, ⟨11, _⟩ => ⟨S1024x512, .f32⟩
  | .hbm, ⟨12, _⟩ => ⟨S1024x16384, .f32⟩
  | .hbm, ⟨13, _⟩ => ⟨S_, .f32⟩
  | .hbm, ⟨14, _⟩ => ⟨S1024x16384, .f32⟩
  | .hbm, ⟨15, _⟩ => ⟨S1024x16384, .f32⟩
  | .hbm, ⟨16, _⟩ => ⟨S1024x512, .f32⟩
  | .hbm, ⟨17, _⟩ => ⟨S1024x16384, .f32⟩
  | .hbm, ⟨18, _⟩ => ⟨S_, .f32⟩
  | .hbm, ⟨19, _⟩ => ⟨S1024x16384, .f32⟩
  | .hbm, ⟨20, _⟩ => ⟨S1024x16384, .f32⟩
  | .hbm, ⟨21, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Body.lean ====
/- The kernel's body written as loops over the peers, and that the printed body is that program. -/
module

public import proofs.«01_k».proof.Proof.Gen.KernelIdeal.Frame
public import proofs.«01_k».proof.Proof.Gen.KernelIdeal.Skeleton
public import Idealize.ShloMosaic.Lib.Pipeline.Regions

@[expose] public section

set_option maxRecDepth 16384

noncomputable section

namespace Cert.KernelIdeal.Mlp

open Idealize.ShloMosaic Idealize.ShloMosaic.TcCoe Idealize.SL.Sem
open Cert.KernelIdeal Cert.KernelIdeal.Gen

variable {F : FTy → Type} [FloatOps F]

/-- A program of the kernel's core. -/
abbrev KP (F : FTy → Type) (α : Type) := Prog (TpuEff nD τ sig (Elt F) Λ₀ .tc) α

/-! ## Shapes of the pieces -/

theorem row_inb (j : ℕ) (h : j < 16) : ∀ a, (![64 * j, 0] : Fin 2 → ℕ) a + S64x512.size a ≤ S1024x512.size a := by
  revert j; decide
theorem row_words (j : ℕ) (h : j < 16) : (Rect.unit (s := S1024x512) ![64 * j, 0] S64x512.size (row_inb j h)).WholeWords (EltTy.packing .bf16) := by
  revert j; decide
theorem row_packed (j : ℕ) (h : j < 16) : (Rect.unit (s := S1024x512) ![64 * j, 0] S64x512.size (row_inb j h)).PackedRows (EltTy.packing .bf16) := by
  revert j; decide
theorem sem_inb (j : ℕ) (h : j < 16) : ∀ a, (![j] : Fin 1 → ℕ) a + S1.size a ≤ S16.size a := by
  revert j; decide

/-- Rows `64 j … 64 j + 63` of a 1024-row scratch. -/
abbrev rowR (j : ℕ) (h : j < 16) : Rect S1024x512 := Rect.unit (s := S1024x512) ![64 * j, 0] S64x512.size (row_inb j h)

/-- The device `d` places round from `c`, as the kernel computes it. -/
def peerN (c : Dev nD) (w : BitVec 32) : ℕ :=
  (Scalar.addi 0#32 (Scalar.muli (Scalar.remsi (Scalar.addi (Scalar.remsi (Scalar.divsi (Dev.word c) 1#32) 16#32) w) 16#32) 1#32)).toNat
theorem peerN_eq : ∀ (c : Dev nD) (r : Fin 15), peerN c (BitVec.ofNat 32 (1 + r.val)) = (c.val + r.val + 1) % 16 := by decide +kernel
theorem peerN_lt : ∀ (c : Dev nD) (r : Fin 15), peerN c (BitVec.ofNat 32 (1 + r.val)) < nD := by decide +kernel
abbrev peer (c : Dev nD) (r : Fin 15) : Dev nD := ⟨peerN c (BitVec.ofNat 32 (1 + r.val)), peerN_lt c r⟩

/-! ## The program -/

/-- Run `f` on the list's elements in order. -/
def seqL {E : Type → Type} {α : Type} : List α → (α → Prog E PUnit) → Prog E PUnit
  | [], _ => Prog.ret ⟨⟩
  | a :: l, f => f a >>= fun _ => seqL l f

/-- The fifteen peers in order. -/
abbrev all15 : List (Fin 15) := [0, 1, 2, 3, 4, 5, 6, 7, 8, 9, 10, 11, 12, 13, 14]

abbrev semAt (a : DmaSems sig S16) (r : Fin 15) : DmaSems sig S_ :=
  (a.slice (Rect.unit (s := S16) ![r.val + 1] S1.size (sem_inb (r.val + 1) (by omega)))).squeeze S_ squeezes_S1_S_
abbrev semOwn (a : DmaSems sig S16) (c : Dev nD) : DmaSems sig S_ :=
  (a.slice (Rect.unit (s := S16) (k0_off1 c) S1.size (k0_off1_inb c))).squeeze S_ squeezes_S1_S_
abbrev semPeer (a : DmaSems sig S16) (c : Dev nD) (r : Fin 15) : DmaSems sig S_ :=
  (a.slice (Rect.unit (s := S16) (k0_off3 c (BitVec.ofNat 32 (1 + r.val))) S1.size (k0_off3_inb c r))).squeeze S_ squeezes_S1_S_
abbrev rowM (a : Memref sig .tc .vmem S1024x512 .bf16) (j : ℕ) (h : j < 16) : Memref sig .tc .vmem S64x512 .bf16 :=
  a.slice (rowR j h) (fun _ => rfl)
abbrev ownM (a : Memref sig .tc .vmem S16x64x512 .bf16) (c : Dev nD) : Memref sig .tc .vmem S64x512 .bf16 :=
  (a.slice (Rect.unit (s := S16x64x512) (k0_off4 c) S1x64x512.size (k0_off4_inb c)) (fun _ => rfl)).squeeze S64x512 squeezes_S1x64x512_S64x512
abbrev peerM (a : Memref sig .tc .vmem S16x64x512 .bf16) (c : Dev nD) (r : Fin 15) : Memref sig .tc .vmem S64x512 .bf16 :=
  (a.slice (Rect.unit (s := S16x64x512) (k0_off5 c (BitVec.ofNat 32 (1 + r.val))) S1x64x512.size (k0_off5_inb c r)) (fun _ => rfl)).squeeze S64x512 squeezes_S1x64x512_S64x512

/-- The barrier: one signal to each peer, then a wait for all fifteen. -/
def barSem : Sem sig := (SemArray.scalar (sig.barrier 0 rfl) : Sems sig S_).sem
def sayHere (c : Dev nD) (r : Fin 15) : KP F PUnit := semSignalWord (peer c r) (SemArray.scalar (sig.barrier 0 rfl) : Sems sig S_).sem 1#32
def awaitAll : KP F PUnit := semWaitWord (SemArray.scalar (sig.barrier 0 rfl) : Sems sig S_).sem 15#32

section
variable (x : Memref sig .tc .vmem S64x512 .f32) (wi : Memref sig .tc .vmem S512x1024 .f32) (wo : Memref sig .tc .vmem S1024x512 .f32)
  (out : Memref sig .tc .vmem S64x512 .f32)
  (xg : Memref sig .tc .vmem S1024x512 .bf16) (hxg : xg.IsWhole) (part : Memref sig .tc .vmem S1024x512 .bf16) (hpart : part.IsWhole)
  (rs : Memref sig .tc .vmem S16x64x512 .bf16) (hrs : rs.IsWhole) (ags rss agd rsd : DmaSems sig S16)

/-- Put the device's own rows in slot 0. -/
def fill (v : FVec F S64x512 .bf16) : KP F PUnit := do
  let _ ← Prog.lift (.load xg (rowR 0 (by omega)).toLoadRect (View.loadsAt_vmem h_S64x512))
  Prog.lift (.store xg (rowR 0 (by omega)) v Finset.univ
    (View.stores_vmem h_S64x512 (hxg.storeExact_slice rfl _ (row_packed 0 (by omega))) (fun _ => rfl)) (.inl rfl))

def agSend (c : Dev nD) (r : Fin 15) : KP F PUnit :=
  Prog.lift (.enqueueDma (rowM xg 0 (by omega)) (.remote (Dev.tc (peer c r)) (rowM xg (15 - r.val) (by omega)) (.dma (semAt agd r).sem))
    (.dma (semOwn ags c).sem) (hxg.wordExact_slice rfl _ (row_words 0 (by omega))) (hxg.wordExact_slice rfl _ (row_words (15 - r.val) (by omega)))
    ⟨⟨rfl, Or.inl rfl⟩, trivial⟩)

def agWait (c : Dev nD) (r : Fin 15) : KP F PUnit :=
  Prog.lift (.waitDma2 (semPeer ags c r).sem (rowM xg (r.val + 1) (by omega)) (rowM xg (r.val + 1) (by omega))
    (hxg.wordExact_slice rfl _ (row_words (r.val + 1) (by omega))) (hxg.wordExact_slice rfl _ (row_words (r.val + 1) (by omega))))

def rsSend (c : Dev nD) (r : Fin 15) : KP F PUnit :=
  Prog.lift (.enqueueDma (rowM part (r.val + 1) (by omega)) (.remote (Dev.tc (peer c r)) (ownM rs c) (.dma (semAt rsd r).sem))
    (.dma (semOwn rss c).sem) (hpart.wordExact_slice rfl _ (row_words (r.val + 1) (by omega)))
    ((hrs.wordExact_slice rfl _ (k0_off4_wordsbf16 c)).reshape _ _) ⟨⟨rfl, Or.inl rfl⟩, trivial⟩)

def rsWait (c : Dev nD) (r : Fin 15) : KP F PUnit :=
  Prog.lift (.waitDma2 (semPeer rss c r).sem (rowM part (r.val + 1) (by omega)) (peerM rs c r)
    (hpart.wordExact_slice rfl _ (row_words (r.val + 1) (by omega))) ((hrs.wordExact_slice rfl _ (k0_off5_wordsbf16 c r)).reshape _ _))

def agDone (r : Fin 15) : KP F PUnit :=
  Prog.lift (.waitDma2 (semAt agd r).sem (rowM xg (15 - r.val) (by omega)) (rowM xg 0 (by omega))
    (hxg.wordExact_slice rfl _ (row_words (15 - r.val) (by omega))) (hxg.wordExact_slice rfl _ (row_words 0 (by omega))))

def rsDone (c : Dev nD) (r : Fin 15) : KP F PUnit :=
  Prog.lift (.waitDma2 (semAt rsd r).sem (ownM rs c) (rowM part (r.val + 1) (by omega))
    ((hrs.wordExact_slice rfl _ (k0_off4_wordsbf16 c)).reshape _ _) (hpart.wordExact_slice rfl _ (row_words (r.val + 1) (by omega))))

def ldWi : KP F (Vec F S512x1024 .f32) := Prog.lift (.load wi (Rect.unit (s := S512x1024) ![0, 0] S512x1024.size inb_S512x1024_S512x1024_0_0).toLoadRect (View.loadsAt_vmem h_S512x1024))
def ldWo : KP F (Vec F S1024x512 .f32) := Prog.lift (.load wo (Rect.unit (s := S1024x512) ![0, 0] S1024x512.size inb_S1024x512_S1024x512_0_0).toLoadRect (View.loadsAt_vmem h_S1024x512))

/-- One group's rows through the two matrices: the `n` rows from row `o` on of the gathered input to the same rows of the partial results. -/
def comp (o n : ℕ) (hi : ∀ a, (![o, 0] : Fin 2 → ℕ) a + (![n, 512] : Fin 2 → ℕ) a ≤ S1024x512.size a) (hs : 0 < (⟨2, ![n, 512]⟩ : Shape).numel)
    (hr : (Rect.unit (s := S1024x512) ![o, 0] ![n, 512] hi).PackedRows (EltTy.packing .bf16))
    (pay : Vec F ⟨2, ![n, 512]⟩ .bf16 → Vec F S512x1024 .f32 → Vec F S1024x512 .f32 → FVec F ⟨2, ![n, 512]⟩ .bf16) : KP F PUnit := do
  let v : Vec F ⟨2, ![n, 512]⟩ .bf16 ← Prog.lift (.load xg (Rect.unit (s := S1024x512) ![o, 0] ![n, 512] hi).toLoadRect (View.loadsAt_vmem hs))
  let a ← ldWi wi
  let b ← ldWo wo
  let _ ← Prog.lift (.load part (Rect.unit (s := S1024x512) ![o, 0] ![n, 512] hi).toLoadRect (View.loadsAt_vmem hs))
  Prog.lift (.store part (Rect.unit (s := S1024x512) ![o, 0] ![n, 512] hi) (pay v a b) Finset.univ
      (View.stores_vmem hs (hpart.storeExact_slice rfl _ hr) (fun _ => rfl)) (.inl rfl))

/-- The own block's partial result into the own slot of the results. -/
def own (c : Dev nD) : KP F PUnit := do
  let v : Vec F S64x512 .bf16 ← Prog.lift (.load part (rowR 0 (by omega)).toLoadRect (View.loadsAt_vmem h_S64x512))
  let _ ← Prog.lift (.load rs (Rect.unit (s := S16x64x512) (k0_off2 c) S1x64x512.size (k0_off2_inb c)).toLoadRect (View.loadsAt_vmem h_S1x64x512))
  Prog.lift (.store rs (Rect.unit (s := S16x64x512) (k0_off2 c) S1x64x512.size (k0_off2_inb c)) (k0_pay5 v) Finset.univ
    (View.stores_vmem h_S1x64x512 (hrs.storeExact_slice rfl _ (k0_off2_packedbf16 c)) (fun _ => rfl)) (.inl rfl))

def ldRs : KP F (Vec F S16x64x512 .bf16) :=
  Prog.lift (.load rs (Rect.unit (s := S16x64x512) ![0, 0, 0] S16x64x512.size inb_S16x64x512_S16x64x512_0_0_0).toLoadRect (View.loadsAt_vmem h_S16x64x512))

def stOut (v : FVec F S64x512 .f32) : KP F PUnit := do
  let _ ← Prog.lift (.load out (Rect.unit (s := S64x512) ![0, 0] S64x512.size inb_S64x512_S64x512_0_0).toLoadRect (View.loadsAt_vmem h_S64x512))
  Prog.lift (.store out (Rect.unit (s := S64x512) ![0, 0] S64x512.size inb_S64x512_S64x512_0_0) v Finset.univ (View.stores_vmem_bits_univ h_S64x512 rfl) (.inl rfl))

/-- The sum of the sixteen partial results. -/
abbrev sumOf (v : Vec F S16x64x512 .bf16) : FVec F S64x512 .f32 := k0_pay15 v

def grp (c : Dev nD) (l : List (Fin 15)) (p : KP F PUnit) : KP F PUnit := do
  seqL l (agWait xg hxg ags c)
  p
  seqL l (rsSend part hpart rs hrs rss rsd c)

/-- One layer, up to the sum of the results. -/
def layer (c : Dev nD) : KP F (Vec F S16x64x512 .bf16) := do
  seqL all15 (agSend xg hxg ags agd c)
  comp wi wo xg part hpart 0 64 inb_S1024x512_S64x512_0_0 h_S64x512 packedbf16_S1024x512_S64x512_0_0 k0_pay18
  own part rs hrs c
  grp xg hxg part hpart rs hrs ags rss rsd c [0, 1, 2, 3]
    (comp wi wo xg part hpart 64 256 inb_S1024x512_S256x512_64_0 h_S256x512 packedbf16_S1024x512_S256x512_64_0 k0_pay33)
  grp xg hxg part hpart rs hrs ags rss rsd c [4, 5, 6, 7]
    (comp wi wo xg part hpart 320 256 inb_S1024x512_S256x512_320_0 h_S256x512 packedbf16_S1024x512_S256x512_320_0 k0_pay33)
  grp xg hxg part hpart rs hrs ags rss rsd c [8, 9, 10, 11]
    (comp wi wo xg part hpart 576 256 inb_S1024x512_S256x512_576_0 h_S256x512 packedbf16_S1024x512_S256x512_576_0 k0_pay33)
  grp xg hxg part hpart rs hrs ags rss rsd c [12, 13]
    (comp wi wo xg part hpart 832 128 inb_S1024x512_S128x512_832_0 h_S128x512 packedbf16_S1024x512_S128x512_832_0 k0_pay25)
  grp xg hxg part hpart rs hrs ags rss rsd c [14]
    (comp wi wo xg part hpart 960 64 inb_S1024x512_S64x512_960_0 h_S64x512 packedbf16_S1024x512_S64x512_960_0 k0_pay37)
  seqL all15 (rsWait part hpart rs hrs rss c)
  let v ← ldRs rs
  seqL all15 (agDone xg hxg agd)
  seqL all15 (rsDone part hpart rs hrs rsd c)
  pure v

end

/-- The whole kernel. -/
def prog (arg0 : Memref sig .tc .vmem S64x512 .f32) (arg1 : Memref sig .tc .vmem S512x1024 .f32) (arg2 : Memref sig .tc .vmem S1024x512 .f32)
    (arg3 : Memref sig .tc .vmem S512x1024 .f32) (arg4 : Memref sig .tc .vmem S1024x512 .f32) (arg5 : Memref sig .tc .vmem S512x1024 .f32)
    (arg6 : Memref sig .tc .vmem S1024x512 .f32) (arg7 : Memref sig .tc .vmem S64x512 .f32)
    (xg : Memref sig .tc .vmem S1024x512 .bf16) (hxg : xg.IsWhole) (part : Memref sig .tc .vmem S1024x512 .bf16) (hpart : part.IsWhole)
    (rs : Memref sig .tc .vmem S16x64x512 .bf16) (hrs : rs.IsWhole) (ags rss agd rsd : DmaSems sig S16) : KP F PUnit := do
  let c : Dev nD ← Prog.lift .deviceId
  seqL all15 (sayHere c)
  awaitAll
  let x : Vec F S64x512 .f32 ← Prog.lift (.load arg0 (Rect.unit (s := S64x512) ![0, 0] S64x512.size inb_S64x512_S64x512_0_0).toLoadRect (View.loadsAt_vmem h_S64x512))
  fill xg hxg (k0_pay1 x)
  let v ← layer arg1 arg2 xg hxg part hpart rs hrs ags rss agd rsd c
  fill xg hxg (k0_pay17 (k0_pay16 (k0_pay15 v)))
  let v ← layer arg3 arg4 xg hxg part hpart rs hrs ags rss agd rsd c
  fill xg hxg (k0_pay17 (k0_pay16 (k0_pay15 v)))
  let v ← layer arg5 arg6 xg hxg part hpart rs hrs ags rss agd rsd c
  stOut arg7 (k0_pay38 v)

section
variable (arg0 : Memref sig .tc .vmem S64x512 .f32) (harg0 : arg0.IsWhole) (arg1 : Memref sig .tc .vmem S512x1024 .f32) (harg1 : arg1.IsWhole)
  (arg2 : Memref sig .tc .vmem S1024x512 .f32) (harg2 : arg2.IsWhole) (arg3 : Memref sig .tc .vmem S512x1024 .f32) (harg3 : arg3.IsWhole)
  (arg4 : Memref sig .tc .vmem S1024x512 .f32) (harg4 : arg4.IsWhole) (arg5 : Memref sig .tc .vmem S512x1024 .f32) (harg5 : arg5.IsWhole)
  (arg6 : Memref sig .tc .vmem S1024x512 .f32) (harg6 : arg6.IsWhole) (arg7 : Memref sig .tc .vmem S64x512 .f32) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S16x64x512 .bf16) (harg10 : arg10.IsWhole) (arg11 arg12 arg13 arg14 : DmaSems sig S16)

set_option maxHeartbeats 0 in
/-- The printed body is the program above. -/
theorem body_eq : cc0_body (F := F) arg0 harg0 arg1 harg1 arg2 harg2 arg3 harg3 arg4 harg4 arg5 harg5 arg6 harg6 arg7 harg7 arg8 harg8 arg9 harg9 arg10 harg10 arg11 arg12 arg13 arg14
    = prog arg0 arg1 arg2 arg3 arg4 arg5 arg6 arg7 arg8 harg8 arg9 harg9 arg10 harg10 arg11 arg12 arg13 arg14 := by
  chain_rfl

end
end Cert.KernelIdeal.Mlp
-- ==== Proof.Ideal.Base.lean ====
/- The cells, the element sets and the contents the protocol of the kernel speaks of. -/
module

public import proofs.«01_k».proof.Proof.Ideal.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic
public import Idealize.ShloMosaic.Lib.ValueIdxCore

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

/-! ## The resource algebra -/

abbrev UB : Type := URounds (GSem nD τ sig) (Dev nD)
abbrev UU : Type := UR sig nD τ × UB

/-- The assertions' model: credit and levels are indexed by the layer. -/
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Peers -/

/-- The device `r + 1` places round from `c`. -/
def pr (c : Dev nD) (r : Fin 15) : Dev nD := ⟨(c.val + r.val + 1) % 16, Nat.mod_lt _ (by decide)⟩
/-- The place at which `pr c r` sees `c`. -/
def rv (r : Fin 15) : Fin 15 := ⟨14 - r.val, by omega⟩

theorem peer_eq (c : Dev nD) (r : Fin 15) : peer c r = pr c r := Fin.ext (peerN_eq c r)
theorem rv_rv (r : Fin 15) : rv (rv r) = r := by revert r; decide
theorem pr_pr (c : Dev nD) (r : Fin 15) : pr (pr c r) (rv r) = c := by revert c r; decide
theorem pr_ne (c : Dev nD) (r : Fin 15) : pr c r ≠ c := by revert c r; decide
theorem ne_pr (c : Dev nD) (r : Fin 15) : c ≠ pr c r := fun h => pr_ne c r h.symm
theorem pr_inj (c : Dev nD) : Function.Injective (pr c) := by revert c; decide
theorem pr_surj (c d : Dev nD) (h : d ≠ c) : ∃ r, pr c r = d := by revert c d; decide

/-! ## The cells -/

abbrev xgM : Memref sig .tc .vmem S1024x512 .bf16 := Memref.whole cc0_scratch0
abbrev partM : Memref sig .tc .vmem S1024x512 .bf16 := Memref.whole cc0_scratch1
abbrev rsM : Memref sig .tc .vmem S16x64x512 .bf16 := Memref.whole cc0_scratch2

abbrev agQ (i : Fin 16) : DmaSem sig := ⟨8 + i.val, by show 8 + i.val < 72; omega⟩
abbrev rsQ (i : Fin 16) : DmaSem sig := ⟨24 + i.val, by show 24 + i.val < 72; omega⟩
abbrev agdQ (i : Fin 16) : DmaSem sig := ⟨40 + i.val, by show 40 + i.val < 72; omega⟩
abbrev rsdQ (i : Fin 16) : DmaSem sig := ⟨56 + i.val, by show 56 + i.val < 72; omega⟩

abbrev barCell (p : Dev nD) : GSem nD τ sig := ((p : Thread nD τ), .reg barSem)
abbrev agCell (p i : Dev nD) : GSem nD τ sig := ((p : Thread nD τ), .dma (agQ i))
abbrev rsCell (p i : Dev nD) : GSem nD τ sig := ((p : Thread nD τ), .dma (rsQ i))
abbrev agdCell (p : Dev nD) (d : Fin 16) : GSem nD τ sig := ((p : Thread nD τ), .dma (agdQ d))
abbrev rsdCell (p : Dev nD) (d : Fin 16) : GSem nD τ sig := ((p : Thread nD τ), .dma (rsdQ d))

/-- The index of the `r`-th send. -/
abbrev ix (r : Fin 15) : Fin 16 := ⟨r.val + 1, by omega⟩

theorem semOwn_ag : ∀ c : Dev nD, (semOwn cc0_scratch3 c).sem = agQ c := by decide +kernel
theorem semOwn_rs : ∀ c : Dev nD, (semOwn cc0_scratch4 c).sem = rsQ c := by decide +kernel
theorem semPeer_ag : ∀ (c : Dev nD) (r : Fin 15), (semPeer cc0_scratch3 c r).sem = agQ (pr c r) := by decide +kernel
theorem semPeer_rs : ∀ (c : Dev nD) (r : Fin 15), (semPeer cc0_scratch4 c r).sem = rsQ (pr c r) := by decide +kernel
theorem semAt_agd : ∀ r : Fin 15, (semAt cc0_scratch5 r).sem = agdQ (ix r) := by decide +kernel
theorem semAt_rsd : ∀ r : Fin 15, (semAt cc0_scratch6 r).sem = rsdQ (ix r) := by decide +kernel

/-- What a cell is for. -/
inductive Kind
  | bar | ag (i : Fin 16) | rs (i : Fin 16) | agd (d : Fin 16) | rsd (d : Fin 16) | other
deriving DecidableEq

def kind : SemLoc sig → Kind
  | .reg _ => .bar
  | .dma q => if h : q.val < 8 then .other else if h1 : q.val < 24 then .ag ⟨q.val - 8, by omega⟩ else if h2 : q.val < 40 then .rs ⟨q.val - 24, by omega⟩
      else if h3 : q.val < 56 then .agd ⟨q.val - 40, by omega⟩
      else .rsd ⟨q.val - 56, by have h : q.val < 72 := q.isLt; omega⟩

theorem kind_bar : kind (.reg barSem) = .bar := rfl
theorem kind_ag : ∀ i, kind (.dma (agQ i)) = .ag i := by decide
theorem kind_rs : ∀ i, kind (.dma (rsQ i)) = .rs i := by decide
theorem kind_agd : ∀ i, kind (.dma (agdQ i)) = .agd i := by decide
theorem kind_rsd : ∀ i, kind (.dma (rsdQ i)) = .rsd i := by decide

/-- The credit one copied block gives. -/
abbrev N : ℕ := (rowM xgM 0 (by omega)).view.dmaCredit
theorem N_pos : 0 < N := View.dmaCredit_pos _ (by decide)
theorem N_row (j : ℕ) (h : j < 16) : (rowM xgM j h).view.dmaCredit = N := rfl
theorem N_part (j : ℕ) (h : j < 16) : (rowM partM j h).view.dmaCredit = N := rfl
theorem N_own (c : Dev nD) : (ownM rsM c).view.dmaCredit = N := rfl
theorem N_peer (c : Dev nD) (r : Fin 15) : (peerM rsM c r).view.dmaCredit = N := rfl

/-! ## Element sets -/

/-- Rows `a … b - 1` of a 1024-row buffer. -/
def rows (a b : ℕ) : Finset S1024x512.Idx := Finset.univ.filter fun x => a ≤ (x 0).val ∧ (x 0).val < b
/-- Block `i` of the sixteen results. -/
def blk (i : ℕ) : Finset S16x64x512.Idx := Finset.univ.filter fun x => (x 0).val = i

theorem mem_rows {a b : ℕ} {x : S1024x512.Idx} : x ∈ rows a b ↔ a ≤ (x 0).val ∧ (x 0).val < b := by simp [rows]
theorem mem_blk {i : ℕ} {x : S16x64x512.Idx} : x ∈ blk i ↔ (x 0).val = i := by simp [blk]

theorem rect_rows (o n : ℕ) (hi : ∀ a, (![o, 0] : Fin 2 → ℕ) a + (![n, 512] : Fin 2 → ℕ) a ≤ S1024x512.size a) :
    (Rect.unit (s := S1024x512) ![o, 0] ![n, 512] hi).set = rows o (o + n) := by
  ext x; rw [Rect.mem_set_unit, mem_rows]
  have h1 : (x 1).val < 512 := (x 1).isLt
  constructor
  · intro h; exact h 0
  · intro h a; match a with
    | ⟨0, _⟩ => exact h
    | ⟨1, _⟩ => exact ⟨Nat.zero_le _, by show (x 1).val < 0 + 512; omega⟩

theorem set_row (a : Ref sig .tc) (j : ℕ) (h : j < 16) : (rowR j h).set = rows (64 * j) (64 * j + 64) := rect_rows _ _ _
theorem set_rowM0 (j : ℕ) (h : j < 16) : (rowM xgM j h).view.set = rows (64 * j) (64 * j + 64) :=
  (View.set_slice_whole cc0_scratch0 (rowR j h)).trans (rect_rows _ _ _)
theorem set_rowM1 (j : ℕ) (h : j < 16) : (rowM partM j h).view.set = rows (64 * j) (64 * j + 64) :=
  (View.set_slice_whole cc0_scratch1 (rowR j h)).trans (rect_rows _ _ _)

theorem rect_blk (i : ℕ) (off : Fin 3 → ℕ) (ho : off = ![i, 0, 0]) (hi : ∀ a, off a + S1x64x512.size a ≤ S16x64x512.size a) :
    (Rect.unit (s := S16x64x512) off S1x64x512.size hi).set = blk i := by
  subst ho; ext x; rw [Rect.mem_set_unit, mem_blk]
  have h1 : (x 1).val < 64 := (x 1).isLt
  have h2 : (x 2).val < 512 := (x 2).isLt
  constructor
  · intro h
    have h0 : i ≤ (x 0).val ∧ (x 0).val < i + 1 := h 0
    omega
  · intro h a; match a with
    | ⟨0, _⟩ => exact (show i ≤ (x 0).val ∧ (x 0).val < i + 1 by omega)
    | ⟨1, _⟩ => exact (show 0 ≤ (x 1).val ∧ (x 1).val < 0 + 64 by omega)
    | ⟨2, _⟩ => exact (show 0 ≤ (x 2).val ∧ (x 2).val < 0 + 512 by omega)

theorem set_ownM (c : Dev nD) : (ownM rsM c).view.set = blk c.val :=
  ((View.set_reshape _ _).trans (View.set_slice_whole cc0_scratch2 _)).trans (rect_blk _ _ (k0_off4_eq c) _)

theorem rows_disj (a b d : ℕ) : Disjoint (rows a b) (rows b d) := by
  rw [Finset.disjoint_left]; intro x h h'; rw [mem_rows] at h h'; omega
theorem rows_union (a b d : ℕ) (h : a ≤ b) (h' : b ≤ d) : rows a b ∪ rows b d = rows a d := by
  ext x; rw [Finset.mem_union, mem_rows, mem_rows, mem_rows]; omega
theorem rows_all : rows 0 1024 = Finset.univ := by
  ext x; rw [mem_rows]; have h : (x 0).val < 1024 := (x 0).isLt
  simp only [Finset.mem_univ, iff_true]; omega
theorem blk_disj (i j : ℕ) (h : i ≠ j) : Disjoint (blk i) (blk j) := by
  rw [Finset.disjoint_left]; intro x h h'; rw [mem_blk] at h h'; omega

/-! ## Contents -/

/-- A rectangle of whole rows. -/
abbrev rr (o n : ℕ) (hi : ∀ a, (![o, 0] : Fin 2 → ℕ) a + (![n, 512] : Fin 2 → ℕ) a ≤ S1024x512.size a) : Rect S1024x512 :=
  Rect.unit (s := S1024x512) ![o, 0] ![n, 512] hi

/-- The gathered input on device `p`: block `j` is the input of the device `j` places round. -/
def gath (X : Dev nD → FVec F S64x512 .bf16) (p : Dev nD) : Vec F S1024x512 .bf16 := fun i =>
  X ⟨(p.val + (i 0).val / 64) % 16, Nat.mod_lt _ (by decide)⟩ (ix2 (n0 := 64) (n1 := 512) ⟨(i 0).val % 64, Nat.mod_lt _ (by decide)⟩ (i 1))

/-- The rows of `G` in one rectangle through `pay`, the other rows those of `rest`. -/
def putg (G : Vec F S1024x512 .bf16) (a : Vec F S512x1024 .f32) (b : Vec F S1024x512 .f32)
    (o n : ℕ) (hi : ∀ a, (![o, 0] : Fin 2 → ℕ) a + (![n, 512] : Fin 2 → ℕ) a ≤ S1024x512.size a)
    (pay : Vec F ⟨2, ![n, 512]⟩ .bf16 → Vec F S512x1024 .f32 → Vec F S1024x512 .f32 → FVec F ⟨2, ![n, 512]⟩ .bf16)
    (rest : Vec F S1024x512 .bf16) : Vec F S1024x512 .bf16 :=
  Function.extend (rr o n hi).emb (pay (fun x => G ((rr o n hi).emb x)) a b) rest

/-- A device's partial results for all sixteen blocks. -/
def partOf (G : Vec F S1024x512 .bf16) (a : Vec F S512x1024 .f32) (b : Vec F S1024x512 .f32) : Vec F S1024x512 .bf16 :=
  putg G a b 0 64 inb_S1024x512_S64x512_0_0 k0_pay18 <|
  putg G a b 64 256 inb_S1024x512_S256x512_64_0 k0_pay33 <|
  putg G a b 320 256 inb_S1024x512_S256x512_320_0 k0_pay33 <|
  putg G a b 576 256 inb_S1024x512_S256x512_576_0 k0_pay33 <|
  putg G a b 832 128 inb_S1024x512_S128x512_832_0 k0_pay25 <|
  putg G a b 960 64 inb_S1024x512_S64x512_960_0 k0_pay37 G

/-- The sixteen partial results of device `p`'s block. -/
def rsOf (P : Dev nD → Vec F S1024x512 .bf16) (p : Dev nD) : Vec F S16x64x512 .bf16 := fun i =>
  P (i 0) (ix2 (n0 := 1024) (n1 := 512) ⟨64 * ((p.val + 16 - (i 0).val) % 16) + (i 1).val, by
    have := Nat.mod_lt (p.val + 16 - (i 0).val) (show 0 < 16 by decide); have h : (i 1).val < 64 := (i 1).isLt; omega⟩ (i 2))

section
variable (m : (ℓ : Loc nD τ sig) → Buf (Elt F) ℓ)

abbrev mrd (c : Dev nD) (w : Fin cfg0.W) : Buf (Elt F) ((cfg0.win w).arr.view.loc (c : Thread nD τ)) := m ((cfg0.win w).arr.view.loc (c : Thread nD τ))

def xin (c : Dev nD) : Vec F S64x512 .f32 := (win0_0.blk (0 : Fin 1)).view.read (Elt F) (m ((c : Thread nD τ).loc main_arg0))
def wi0 (c : Dev nD) : Vec F S512x1024 .f32 := (win0_1.blk (0 : Fin 1)).view.read (Elt F) (m ((c : Thread nD τ).loc main_arg1))
def wo0 (c : Dev nD) : Vec F S1024x512 .f32 := (win0_2.blk (0 : Fin 1)).view.read (Elt F) (m ((c : Thread nD τ).loc main_arg4))
def wi1 (c : Dev nD) : Vec F S512x1024 .f32 := (win0_3.blk (0 : Fin 1)).view.read (Elt F) (m ((c : Thread nD τ).loc main_arg2))
def wo1 (c : Dev nD) : Vec F S1024x512 .f32 := (win0_4.blk (0 : Fin 1)).view.read (Elt F) (m ((c : Thread nD τ).loc main_arg5))
def wi2 (c : Dev nD) : Vec F S512x1024 .f32 := (win0_5.blk (0 : Fin 1)).view.read (Elt F) (m ((c : Thread nD τ).loc main_arg3))
def wo2 (c : Dev nD) : Vec F S1024x512 .f32 := (win0_6.blk (0 : Fin 1)).view.read (Elt F) (m ((c : Thread nD τ).loc main_arg6))

def WI : ℕ → Dev nD → Vec F S512x1024 .f32 | 0 => wi0 m | 1 => wi1 m | _ => wi2 m
def WO : ℕ → Dev nD → Vec F S1024x512 .f32 | 0 => wo0 m | 1 => wo1 m | _ => wo2 m

/-- The input of layer `k` on each device. -/
def X : ℕ → Dev nD → FVec F S64x512 .bf16
  | 0 => fun c => k0_pay1 (xin m c)
  | k + 1 => fun c => k0_pay17 (k0_pay16 (k0_pay15 (rsOf (fun d => partOf (gath (X k) d) (WI m k d) (WO m k d)) c)))

/-- The gathered input of layer `k`, the partial results, and a block's sixteen partial results. -/
def XG (k : ℕ) (c : Dev nD) : Vec F S1024x512 .bf16 := gath (X m k) c
def PART (k : ℕ) (c : Dev nD) : Vec F S1024x512 .bf16 := partOf (XG m k c) (WI m k c) (WO m k c)
def RS (k : ℕ) (c : Dev nD) : Vec F S16x64x512 .bf16 := rsOf (PART m k) c
def OUT (c : Dev nD) : FVec F S64x512 .f32 := k0_pay38 (RS m 2 c)

theorem X_succ (k : ℕ) (c : Dev nD) : X m (k + 1) c = k0_pay17 (k0_pay16 (k0_pay15 (RS m k c))) := rfl
end

end Cert.KernelIdeal.Mlp
-- ==== Proof.Ideal.Contents.lean ====
/- What each copy and each store leaves in its place. -/
module

public import proofs.«01_k».proof.Proof.Ideal.Base
public import Idealize.ShloMosaic.Lib.ValueLayout

@[expose] public section

set_option maxRecDepth 16384

noncomputable section

namespace Cert.KernelIdeal.Mlp

open Idealize.ShloMosaic Idealize.ShloMosaic.TcCoe
open Idealize.ShloMosaic.ValueIdx (ix2 ix3 eq_ix2)
open Cert.KernelIdeal Cert.KernelIdeal.Gen

variable {F : FTy → Type} [FloatOps F]

theorem z16 : 0 < 16 := by decide
theorem lt_ix (r : Fin 15) : r.val + 1 < 16 := by omega
theorem lt_rv (r : Fin 15) : 15 - r.val < 16 := by omega

/-- A view written with what it reads of `g` agrees with `g` there. -/
theorem write_agree {sp : Space} {s : Shape} {e : EltTy} (v : View sig .tc sp s e) (f g : v.ty.Contents (Elt F)) (w : s.Idx → Elt F e)
    (h : v.read (Elt F) g = w) : ∀ x ∈ v.set, v.write (Elt F) f w Finset.univ x = g x := by
  intro x hx
  subst h
  rw [View.write_read_eq_piecewise]
  exact Finset.piecewise_eq_of_mem _ _ _ hx

/-- Slot `j` of the gathered input. -/
theorem gath_row (Y : Dev nD → FVec F S64x512 .bf16) (p : Dev nD) (j : ℕ) (h : j < 16) (x : S64x512.Idx) :
    gath Y p ((rowR j h).emb x) = Y ⟨(p.val + j) % 16, Nat.mod_lt _ (by decide)⟩ x := by
  have h0 : (x 0).val < 64 := (x 0).isLt
  have e0 : (((rowR j h).emb x) 0).val = 64 * j + (x 0).val := by
    rw [Rect.emb_apply]; show 64 * j + 1 * _ = _; rw [Nat.one_mul]
  have e1 : (((rowR j h).emb x) 1).val = (x 1).val := by
    rw [Rect.emb_apply]; show 0 + 1 * _ = _; rw [Nat.one_mul, Nat.zero_add]
  unfold gath
  have ed : (((rowR j h).emb x) 0).val / 64 = j := by rw [e0]; omega
  have em : (((rowR j h).emb x) 0).val % 64 = (x 0).val := by rw [e0]; omega
  have ex : (ix2 (n0 := 64) (n1 := 512) ⟨(((rowR j h).emb x) 0).val % 64, Nat.mod_lt _ (by decide)⟩ (((rowR j h).emb x) 1)) = x := by
    funext a; match a with
    | ⟨0, _⟩ => exact Fin.ext em
    | ⟨1, _⟩ => exact Fin.ext e1
  rw [ex]
  have ed' : (⟨(p.val + (((rowR j h).emb x) 0).val / 64) % 16, Nat.mod_lt _ (by decide)⟩ : Dev nD) = ⟨(p.val + j) % 16, Nat.mod_lt _ (by decide)⟩ :=
    Fin.ext (by show (p.val + _ / 64) % 16 = _; rw [ed])
  exact congrFun (congrArg Y ed') x

variable (m : (ℓ : Loc nD τ sig) → Buf (Elt F) ℓ)

theorem read_xg (k : ℕ) (c : Dev nD) (j : ℕ) (h : j < 16) (d : Dev nD) (hd : (c.val + j) % 16 = d.val) :
    (rowM xgM j h).view.read (Elt F) (XG m k c) = X m k d := by
  funext x
  refine (gath_row (X m k) c j h x).trans ?_
  have : (⟨(c.val + j) % 16, Nat.mod_lt _ (by decide)⟩ : Dev nD) = d := Fin.ext hd
  rw [this]

/-- Storing a layer's input in slot 0. -/
theorem fill_agree (k : ℕ) (c : Dev nD) (f : Vec F S1024x512 .bf16) :
    ∀ x ∈ rows 0 64, (xgM.access (rowR 0 z16)).write (Elt F) f (X m k c) Finset.univ x = XG m k c x := by
  intro x hx
  refine write_agree (xgM.access (rowR 0 z16)) f (XG m k c) (X m k c) (read_xg m k c 0 (by omega) c ?_) x ?_
  · have := c.isLt; show (c.val + 0) % 16 = c.val; change c.val < 16 at this; omega
  · rw [show (xgM.access (rowR 0 z16)).set = rows (64 * 0) (64 * 0 + 64) from set_rowM0 0 (by omega)]; exact hx

/-- The gathered block landing. -/
theorem ag_agree (k : ℕ) (c : Dev nD) (r : Fin 15) (f : Vec F S1024x512 .bf16) :
    ∀ x ∈ rows (64 * (15 - r.val)) (64 * (15 - r.val) + 64),
      (rowM xgM (15 - r.val) (lt_rv r)).view.write (Elt F) f ((rowM xgM 0 z16).view.read (Elt F) (XG m k c)) Finset.univ x = XG m k (pr c r) x := by
  intro x hx
  refine write_agree (rowM xgM (15 - r.val) (lt_rv r)).view f (XG m k (pr c r)) _ ?_ x ?_
  · rw [read_xg m k c 0 (by omega) c (by have : c.val < 16 := c.isLt; omega)]
    refine read_xg m k (pr c r) _ _ c ?_
    have : c.val < 16 := c.isLt
    show ((c.val + r.val + 1) % 16 + (15 - r.val)) % 16 = c.val
    omega
  · rw [set_rowM0]; exact hx

/-- A rectangle put by a group, read back. -/
theorem putg_emb (G : Vec F S1024x512 .bf16) (a : Vec F S512x1024 .f32) (b : Vec F S1024x512 .f32)
    (o n : ℕ) (hi : ∀ a, (![o, 0] : Fin 2 → ℕ) a + (![n, 512] : Fin 2 → ℕ) a ≤ S1024x512.size a)
    (pay : Vec F ⟨2, ![n, 512]⟩ .bf16 → Vec F S512x1024 .f32 → Vec F S1024x512 .f32 → FVec F ⟨2, ![n, 512]⟩ .bf16)
    (rest : Vec F S1024x512 .bf16) (x : (rr o n hi).shape.Idx) :
    putg G a b o n hi pay rest ((rr o n hi).emb x) = pay (fun x => G ((rr o n hi).emb x)) a b x :=
  (rr o n hi).emb.injective.extend_apply _ _ _

theorem putg_skip (G : Vec F S1024x512 .bf16) (a : Vec F S512x1024 .f32) (b : Vec F S1024x512 .f32)
    (o n : ℕ) (hi : ∀ a, (![o, 0] : Fin 2 → ℕ) a + (![n, 512] : Fin 2 → ℕ) a ≤ S1024x512.size a)
    (pay : Vec F ⟨2, ![n, 512]⟩ .bf16 → Vec F S512x1024 .f32 → Vec F S1024x512 .f32 → FVec F ⟨2, ![n, 512]⟩ .bf16)
    (rest : Vec F S1024x512 .bf16) (o' n' : ℕ) (hi' : ∀ a, (![o', 0] : Fin 2 → ℕ) a + (![n', 512] : Fin 2 → ℕ) a ≤ S1024x512.size a)
    (h : o + n ≤ o') (x : (rr o' n' hi').shape.Idx) :
    putg G a b o n hi pay rest ((rr o' n' hi').emb x) = rest ((rr o' n' hi').emb x) := by
  refine Function.extend_apply' _ _ _ ?_
  rintro ⟨y, hy⟩
  have h1 : (((rr o n hi).emb y) 0).val = (((rr o' n' hi').emb x) 0).val := by rw [hy]
  rw [Rect.emb_apply, Rect.emb_apply] at h1
  have h2 : (y 0).val < n := (y 0).isLt
  have h3 : o + 1 * (y 0).val = o' + 1 * (x 0).val := h1
  omega

/-- What one group computes: the partial results at the group's rectangle. -/
def IsGrp (o n : ℕ) (hi : ∀ a, (![o, 0] : Fin 2 → ℕ) a + (![n, 512] : Fin 2 → ℕ) a ≤ S1024x512.size a)
    (pay : Vec F ⟨2, ![n, 512]⟩ .bf16 → Vec F S512x1024 .f32 → Vec F S1024x512 .f32 → FVec F ⟨2, ![n, 512]⟩ .bf16) : Prop :=
  ∀ (G : Vec F S1024x512 .bf16) (a : Vec F S512x1024 .f32) (b : Vec F S1024x512 .f32) (x : (rr o n hi).shape.Idx),
    partOf G a b ((rr o n hi).emb x) = pay (fun x => G ((rr o n hi).emb x)) a b x

theorem isGrp0 : IsGrp (F := F) 0 64 inb_S1024x512_S64x512_0_0 k0_pay18 := fun G a b x => putg_emb _ _ _ _ _ _ _ _ _
theorem isGrp1 : IsGrp (F := F) 64 256 inb_S1024x512_S256x512_64_0 k0_pay33 := fun G a b x =>
  (putg_skip _ _ _ _ _ _ _ _ _ _ _ (by omega) _).trans (putg_emb _ _ _ _ _ _ _ _ _)
theorem isGrp2 : IsGrp (F := F) 320 256 inb_S1024x512_S256x512_320_0 k0_pay33 := fun G a b x =>
  (putg_skip _ _ _ _ _ _ _ _ _ _ _ (by omega) _).trans <| (putg_skip _ _ _ _ _ _ _ _ _ _ _ (by omega) _).trans (putg_emb _ _ _ _ _ _ _ _ _)
theorem isGrp3 : IsGrp (F := F) 576 256 inb_S1024x512_S256x512_576_0 k0_pay33 := fun G a b x =>
  (putg_skip _ _ _ _ _ _ _ _ _ _ _ (by omega) _).trans <| (putg_skip _ _ _ _ _ _ _ _ _ _ _ (by omega) _).trans <|
    (putg_skip _ _ _ _ _ _ _ _ _ _ _ (by omega) _).trans (putg_emb _ _ _ _ _ _ _ _ _)
theorem isGrp4 : IsGrp (F := F) 832 128 inb_S1024x512_S128x512_832_0 k0_pay25 := fun G a b x =>
  (putg_skip _ _ _ _ _ _ _ _ _ _ _ (by omega) _).trans <| (putg_skip _ _ _ _ _ _ _ _ _ _ _ (by omega) _).trans <|
    (putg_skip _ _ _ _ _ _ _ _ _ _ _ (by omega) _).trans <| (putg_skip _ _ _ _ _ _ _ _ _ _ _ (by omega) _).trans (putg_emb _ _ _ _ _ _ _ _ _)
theorem isGrp5 : IsGrp (F := F) 960 64 inb_S1024x512_S64x512_960_0 k0_pay37 := fun G a b x =>
  (putg_skip _ _ _ _ _ _ _ _ _ _ _ (by omega) _).trans <| (putg_skip _ _ _ _ _ _ _ _ _ _ _ (by omega) _).trans <|
    (putg_skip _ _ _ _ _ _ _ _ _ _ _ (by omega) _).trans <| (putg_skip _ _ _ _ _ _ _ _ _ _ _ (by omega) _).trans <|
    (putg_skip _ _ _ _ _ _ _ _ _ _ _ (by omega) _).trans (putg_emb _ _ _ _ _ _ _ _ _)

/-- A group's store. -/
theorem comp_agree {o n : ℕ} {hi : ∀ a, (![o, 0] : Fin 2 → ℕ) a + (![n, 512] : Fin 2 → ℕ) a ≤ S1024x512.size a}
    {pay : Vec F ⟨2, ![n, 512]⟩ .bf16 → Vec F S512x1024 .f32 → Vec F S1024x512 .f32 → FVec F ⟨2, ![n, 512]⟩ .bf16} (hg : IsGrp o n hi pay)
    (k : ℕ) (c : Dev nD) (f : Vec F S1024x512 .bf16) :
    ∀ x ∈ rows o (o + n), (partM.access (rr o n hi)).write (Elt F) f
      (pay (xgM.view.readAt (Elt F) (rr o n hi).toLoadRect (XG m k c)) (WI m k c) (WO m k c)) Finset.univ x = PART m k c x := by
  intro x hx
  refine write_agree (partM.access (rr o n hi)) f (PART m k c) _ ?_ x ?_
  · funext y; exact hg _ _ _ y
  · rw [show (partM.access (rr o n hi)).set = (rr o n hi).set from View.set_slice_whole cc0_scratch1 _, rect_rows]; exact hx

/-- The squeezed index of a block. -/
theorem squeeze_idx (x : S64x512.Idx) :
    Shape.reshapeEquiv (s := S1x64x512) (s' := S64x512) (by decide) x = ix3 (0 : Fin 1) (x 0 : Fin 64) (x 1 : Fin 512) := by
  conv_lhs => rw [eq_ix2 x]
  exact ValueIdx.reshapeEquiv_ix2_1ab _ _ _

theorem unsqueeze_idx (a : Fin 64) (b : Fin 512) (z : Fin 1) :
    Shape.reshapeEquiv (s := S64x512) (s' := S1x64x512) (by decide) (ix3 z a b) = ix2 a b := by
  refine Shape.reshapeEquiv_eq_of_rowMajor _ ?_
  rw [Shape.rowMajor_val_two, Shape.rowMajor_val_three]
  have : z.val = 0 := by omega
  show a.val * 512 + b.val = (z.val * 64 + a.val) * 512 + b.val
  rw [this]; omega

/-- A partial result named by coordinates. -/
theorem rsOf_at (P : Dev nD → Vec F S1024x512 .bf16) (p i : Dev nD) (z : S16x64x512.Idx) (t : S1024x512.Idx) (h0 : (z 0).val = i.val)
    (h1 : (t 0).val = 64 * ((p.val + 16 - i.val) % 16) + (z 1).val) (h2 : (t 1).val = (z 2).val) : rsOf P p z = P i t := by
  unfold rsOf
  have e0 : (z 0 : Fin 16) = i := Fin.ext h0
  refine congr (congrArg P e0) ?_
  funext a; match a with
  | ⟨0, _⟩ => exact Fin.ext ((congrArg (fun n => 64 * ((p.val + 16 - n) % 16) + (z 1).val) h0).trans h1.symm)
  | ⟨1, _⟩ => exact Fin.ext h2.symm

theorem blk_emb (i : ℕ) (off : Fin 3 → ℕ) (ho : off = ![i, 0, 0]) (hi : ∀ a, off a + S1x64x512.size a ≤ S16x64x512.size a)
    (y : S1x64x512.Idx) : (((Rect.unit (s := S16x64x512) off S1x64x512.size hi).emb y) 0).val = i
      ∧ (((Rect.unit (s := S16x64x512) off S1x64x512.size hi).emb y) 1).val = (y 1).val
      ∧ (((Rect.unit (s := S16x64x512) off S1x64x512.size hi).emb y) 2).val = (y 2).val := by
  subst ho
  have h0 : (y 0).val < 1 := (y 0).isLt
  rw [Rect.emb_apply, Rect.emb_apply, Rect.emb_apply]
  refine ⟨?_, ?_, ?_⟩
  · show i + 1 * (y 0).val = i; omega
  · show 0 + 1 * (y 1).val = (y 1).val; omega
  · show 0 + 1 * (y 2).val = (y 2).val; omega

theorem row_emb (j : ℕ) (h : j < 16) (x : S64x512.Idx) : (((rowR j h).emb x) 0).val = 64 * j + (x 0).val ∧ (((rowR j h).emb x) 1).val = (x 1).val := by
  rw [Rect.emb_apply, Rect.emb_apply]
  refine ⟨?_, ?_⟩
  · show 64 * j + 1 * (x 0).val = _; omega
  · show 0 + 1 * (x 1).val = _; omega

/-- A partial result landing at its owner. -/
theorem rs_read (k : ℕ) (c : Dev nD) (r : Fin 15) :
    (ownM rsM c).view.read (Elt F) (RS m k (pr c r)) = (rowM partM (r.val + 1) (lt_ix r)).view.read (Elt F) (PART m k c) := by
  funext x
  have h0 : (x 0).val < 64 := (x 0).isLt
  have hc : c.val < 16 := c.isLt
  show RS m k (pr c r) ((Rect.unit (s := S16x64x512) (k0_off4 c) S1x64x512.size (k0_off4_inb c)).emb
      (Shape.reshapeEquiv (s := S1x64x512) (s' := S64x512) (by decide) x)) = PART m k c ((rowR (r.val + 1) (lt_ix r)).emb x)
  rw [squeeze_idx]
  obtain ⟨e0, e1, e2⟩ := blk_emb c.val _ (k0_off4_eq c) (k0_off4_inb c) (ix3 (0 : Fin 1) (x 0 : Fin 64) (x 1 : Fin 512))
  obtain ⟨f0, f1⟩ := row_emb (r.val + 1) (lt_ix r) x
  refine rsOf_at (PART m k) (pr c r) c _ _ e0 ?_ (f1.trans e2.symm)
  refine f0.trans (Eq.trans ?_ (congrArg (fun n => 64 * (((c.val + r.val + 1) % 16 + 16 - c.val) % 16) + n) e1.symm))
  show 64 * (r.val + 1) + (x 0).val = 64 * (((c.val + r.val + 1) % 16 + 16 - c.val) % 16) + (x 0).val
  omega

theorem rs_agree (k : ℕ) (c : Dev nD) (r : Fin 15) (f : Vec F S16x64x512 .bf16) :
    ∀ x ∈ blk c.val, (ownM rsM c).view.write (Elt F) f ((rowM partM (r.val + 1) (lt_ix r)).view.read (Elt F) (PART m k c)) Finset.univ x
      = RS m k (pr c r) x := by
  intro x hx
  refine write_agree (ownM rsM c).view f (RS m k (pr c r)) _ (rs_read m k c r) x ?_
  rw [set_ownM]; exact hx

/-- The own block's partial result in its slot. -/
theorem own_agree (k : ℕ) (c : Dev nD) (f : Vec F S16x64x512 .bf16) :
    ∀ x ∈ blk c.val, (rsM.access (Rect.unit (s := S16x64x512) (k0_off2 c) S1x64x512.size (k0_off2_inb c))).write (Elt F) f
      (k0_pay5 (partM.view.readAt (Elt F) (rowR 0 z16).toLoadRect (PART m k c))) Finset.univ x = RS m k c x := by
  intro x hx
  refine write_agree (rsM.access (Rect.unit (s := S16x64x512) (k0_off2 c) S1x64x512.size (k0_off2_inb c))) f (RS m k c) _ ?_ x ?_
  · funext y
    have hy : y = ix3 (n0 := 1) (n1 := 64) (n2 := 512) (y 0) (y 1) (y 2) := by
      funext a; match a with | ⟨0, _⟩ => rfl | ⟨1, _⟩ => rfl | ⟨2, _⟩ => rfl
    have hc : c.val < 16 := c.isLt
    show RS m k c ((Rect.unit (s := S16x64x512) (k0_off2 c) S1x64x512.size (k0_off2_inb c)).emb y)
      = PART m k c ((rowR 0 z16).emb (Shape.reshapeEquiv (s := S64x512) (s' := S1x64x512) (by decide) y))
    rw [show Shape.reshapeEquiv (s := S64x512) (s' := S1x64x512) (by decide) y = ix2 (y 1 : Fin 64) (y 2 : Fin 512) from
      (congrArg _ hy).trans (unsqueeze_idx _ _ _)]
    obtain ⟨e0, e1, e2⟩ := blk_emb c.val _ (k0_off2_eq c) (k0_off2_inb c) y
    obtain ⟨f0, f1⟩ := row_emb 0 z16 (ix2 (y 1 : Fin 64) (y 2 : Fin 512))
    refine rsOf_at (PART m k) c c _ _ e0 ?_ (f1.trans e2.symm)
    refine f0.trans (Eq.trans ?_ (congrArg (fun n => 64 * ((c.val + 16 - c.val) % 16) + n) e1.symm))
    show 64 * 0 + (y 1).val = 64 * ((c.val + 16 - c.val) % 16) + (y 1).val
    omega
  · rw [show (rsM.access (Rect.unit (s := S16x64x512) (k0_off2 c) S1x64x512.size (k0_off2_inb c))).set
        = (Rect.unit (s := S16x64x512) (k0_off2 c) S1x64x512.size (k0_off2_inb c)).set from View.set_slice_whole cc0_scratch2 _, rect_blk _ _ (k0_off2_eq c)]
    exact hx

end Cert.KernelIdeal.Mlp
-- ==== Proof.Ideal.Protocol.lean ====
/- The protocol: what each semaphore's cell is paid with, in which round and by whom, what a device owes, and the levels. -/
module

public import proofs.«01_k».proof.Proof.Ideal.Contents

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Pieces of the scratch buffers -/

/-- Rows `a … b - 1` of device `p`'s gathered input, partial results; block `i` of its results. -/
def xgP (p : Dev nD) (a b : ℕ) (f : Vec F S1024x512 .bf16) : sProp 𝕄 := ((p : Thread nD τ).loc cc0_scratch0) ↦[rows a b]{fullShare} f
def ptP (p : Dev nD) (a b : ℕ) (f : Vec F S1024x512 .bf16) : sProp 𝕄 := ((p : Thread nD τ).loc cc0_scratch1) ↦[rows a b]{fullShare} f
def rsS (p : Dev nD) (i : ℕ) (f : Vec F S16x64x512 .bf16) : sProp 𝕄 := ((p : Thread nD τ).loc cc0_scratch2) ↦[blk i]{fullShare} f
abbrev xgS (p : Dev nD) (j : ℕ) (f : Vec F S1024x512 .bf16) : sProp 𝕄 := xgP p (64 * j) (64 * j + 64) f
abbrev ptS (p : Dev nD) (j : ℕ) (f : Vec F S1024x512 .bf16) : sProp 𝕄 := ptP p (64 * j) (64 * j + 64) f
/-- The share of slot 0 that the `r`-th send reads through, and what is left. -/
def xgT (p : Dev nD) (r : ℕ) (f : Vec F S1024x512 .bf16) : sProp 𝕄 :=
  ((p : Thread nD τ).loc cc0_scratch0) ↦[rows 0 64]{Transfers.shareTokN fullShare r} f
def xgR (p : Dev nD) (f : Vec F S1024x512 .bf16) : sProp 𝕄 :=
  ((p : Thread nD τ).loc cc0_scratch0) ↦[rows 0 64]{Transfers.shareDrop fullShare 15} f

instance xgP_storable (p : Dev nD) (a b : ℕ) (f) : BI.Storable (upEmb : UEmb _ 𝕄) (xgP (F := F) p a b f) := by unfold xgP; infer_instance
instance ptP_storable (p : Dev nD) (a b : ℕ) (f) : BI.Storable (upEmb : UEmb _ 𝕄) (ptP (F := F) p a b f) := by unfold ptP; infer_instance
instance rsS_storable (p : Dev nD) (i : ℕ) (f) : BI.Storable (upEmb : UEmb _ 𝕄) (rsS (F := F) p i f) := by unfold rsS; infer_instance
instance xgT_storable (p : Dev nD) (r : ℕ) (f) : BI.Storable (upEmb : UEmb _ 𝕄) (xgT (F := F) p r f) := by unfold xgT; infer_instance

/-- The slot in which device `p` keeps the block of device `i`. -/
def slotOf (p i : Dev nD) : ℕ := (i.val + 16 - p.val) % 16
theorem slotOf_pr (c : Dev nD) (r : Fin 15) : slotOf c (pr c r) = r.val + 1 := by revert c r; decide
theorem slotOf_back (c : Dev nD) (r : Fin 15) : slotOf (pr c r) c = 15 - r.val := by revert c r; decide

/-! ## The payloads -/

variable (m : (ℓ : Loc nD τ sig) → Buf (Elt F) ℓ)

/-- Saying hello, `d` gives `p` its slot for `p`'s block and its block of results that `p` fills. -/
def barPay (p d : Dev nD) : sProp 𝕄 := iprop((∃ f, xgS d (slotOf d p) f) ∗ ∃ f, rsS d p.val f)
/-- What goes along with `i`'s input of layer `k` to `p`: from the second layer on, `i`'s block of results that `p` fills. -/
def agX (k : ℕ) (p i : Dev nD) : sProp 𝕄 := match k with
  | 0 => iprop(emp)
  | k + 1 => iprop((∃ f, rsS i p.val f) ∗ reached ER (rsCell i p) (k + 1))
/-- What goes along with `i`'s partial result of layer `k` to `p`: up to the last layer, `i`'s slot for `p`'s block. -/
def rsX (k : ℕ) (p i : Dev nD) : sProp 𝕄 :=
  if k < 2 then iprop((∃ f, xgS i (slotOf i p) f) ∗ reached ER (agCell i p) (k + 1)) else iprop(emp)
def agPay (k : ℕ) (p i : Dev nD) : sProp 𝕄 := iprop(xgS p (slotOf p i) (XG m k p) ∗ agX k p i)
def rsPay (k : ℕ) (p i : Dev nD) : sProp 𝕄 := iprop(rsS p i.val (RS m k p) ∗ rsX k p i)

instance agX_storable (k : ℕ) (p i : Dev nD) : BI.Storable (upEmb : UEmb _ 𝕄) (agX (F := F) k p i) := by unfold agX; split <;> infer_instance
instance rsX_storable (k : ℕ) (p i : Dev nD) : BI.Storable (upEmb : UEmb _ 𝕄) (rsX (F := F) k p i) := by unfold rsX; split <;> infer_instance

def payOf (kd : Kind) (p : Dev nD) (k : ℕ) (d : Dev nD) : sProp 𝕄 := match kd with
  | .bar => barPay p d
  | .ag i => agPay m k p i
  | .rs i => rsPay m k p i
  | .agd i => xgT p (i.val - 1) (XG m k p)
  | .rsd i => ptS p i.val (PART m k p)
  | .other => iprop(emp)

instance payOf_storable (kd : Kind) (p : Dev nD) (k : ℕ) (d : Dev nD) : BI.Storable (upEmb : UEmb _ 𝕄) (payOf m kd p k d) := by
  unfold payOf barPay agPay rsPay; cases kd <;> infer_instance

def dutiesOf (kd : Kind) (p : Dev nD) (k : ℕ) : Finset (Dev nD) := match kd with
  | .bar => if k = 0 then Finset.univ.erase p else ∅
  | .ag i | .rs i => if k < 3 ∧ i ≠ p then {i} else ∅
  | .agd d | .rsd d => if k < 3 ∧ d ≠ 0 then {p} else ∅
  | .other => ∅

def amountOf (kd : Kind) : ℕ := match kd with
  | .bar => 1
  | _ => N

/-- The schedule of all cells. -/
def Rd : Rounds.Schedule (GSem nD τ sig) (Dev nD) 𝕄 where
  duties g k := if g.1.2 = .tc then dutiesOf (kind g.2) g.1.1 k else ∅
  unitless _ := False
  amount g _ _ := amountOf (kind g.2)
  payload g k d := payOf m (kind g.2) g.1.1 k d
  amount_pos g _ _ _ := by
    cases kind g.2 <;> first | exact Nat.one_pos | exact N_pos

instance Rd_storable (g : GSem nD τ sig) (k : ℕ) (d : Dev nD) : BI.Storable (upEmb : UEmb _ 𝕄) ((Rd (F := F) m).payload g k d) :=
  payOf_storable m (kind g.2) g.1.1 k d

section
variable (p : Dev nD) (k : ℕ)

theorem duties_tc (sm : SemLoc sig) : (Rd (F := F) m).duties ((p : Thread nD τ), sm) k = dutiesOf (kind sm) p k := by
  show (if (p : Thread nD τ).2 = .tc then dutiesOf (kind sm) p k else ∅) = _
  exact if_pos rfl
theorem duties_bar : (Rd (F := F) m).duties (barCell p) 0 = Finset.univ.erase p := rfl
theorem duties_ag (r : Fin 15) (hk : k < 3) : (Rd (F := F) m).duties (agCell p (pr p r)) k = {pr p r} :=
  (duties_tc m (p) k (.dma (agQ (pr p r)))).trans (by rw [kind_ag]; exact if_pos ⟨hk, pr_ne p r⟩)
theorem duties_rs (r : Fin 15) (hk : k < 3) : (Rd (F := F) m).duties (rsCell p (pr p r)) k = {pr p r} :=
  (duties_tc m (p) k (.dma (rsQ (pr p r)))).trans (by rw [kind_rs]; exact if_pos ⟨hk, pr_ne p r⟩)
theorem duties_ag' (r : Fin 15) (hk : k < 3) : (Rd (F := F) m).duties (agCell (pr p r) p) k = {p} :=
  (duties_tc m ((pr p r)) k (.dma (agQ p))).trans (by rw [kind_ag]; exact if_pos ⟨hk, ne_pr p r⟩)
theorem duties_rs' (r : Fin 15) (hk : k < 3) : (Rd (F := F) m).duties (rsCell (pr p r) p) k = {p} :=
  (duties_tc m ((pr p r)) k (.dma (rsQ p))).trans (by rw [kind_rs]; exact if_pos ⟨hk, ne_pr p r⟩)
theorem ix_ne (r : Fin 15) : ix r ≠ 0 := fun h => absurd (congrArg Fin.val h) (Nat.succ_ne_zero _)
theorem duties_agd (r : Fin 15) (hk : k < 3) : (Rd (F := F) m).duties (agdCell p (ix r)) k = {p} :=
  (duties_tc m (p) k (.dma (agdQ (ix r)))).trans (by rw [kind_agd]; exact if_pos ⟨hk, ix_ne r⟩)
theorem duties_rsd (r : Fin 15) (hk : k < 3) : (Rd (F := F) m).duties (rsdCell p (ix r)) k = {p} :=
  (duties_tc m (p) k (.dma (rsdQ (ix r)))).trans (by rw [kind_rsd]; exact if_pos ⟨hk, ix_ne r⟩)
/-- After the third round, no cell has a duty. -/
theorem duties_later (g : GSem nD τ sig) (r : ℕ) (hr : 3 ≤ r) : (Rd (F := F) m).duties g r = ∅ := by
  unfold Rd; dsimp only
  split
  · cases kind g.2 <;> unfold dutiesOf <;> first | rfl | exact if_neg (by omega)
  · rfl
theorem duties_bar_later (r : ℕ) (hr : 1 ≤ r) : (Rd (F := F) m).duties (barCell p) r = ∅ :=
  (duties_tc m p r (.reg barSem)).trans <| if_neg (by omega)
/-- A device's own cells of its own index, and the send cells of index 0, have no duty. -/
theorem duties_ag_own (r : ℕ) : (Rd (F := F) m).duties (agCell p p) r = ∅ :=
  (duties_tc m (p) r (.dma (agQ p))).trans (by rw [kind_ag]; exact if_neg (fun h => h.2 rfl))
theorem duties_rs_own (r : ℕ) : (Rd (F := F) m).duties (rsCell p p) r = ∅ :=
  (duties_tc m (p) r (.dma (rsQ p))).trans (by rw [kind_rs]; exact if_neg (fun h => h.2 rfl))
theorem duties_agd_own (r : ℕ) : (Rd (F := F) m).duties (agdCell p 0) r = ∅ :=
  (duties_tc m (p) r (.dma (agdQ 0))).trans (by rw [kind_agd]; exact if_neg (fun h => h.2 rfl))
theorem duties_rsd_own (r : ℕ) : (Rd (F := F) m).duties (rsdCell p 0) r = ∅ :=
  (duties_tc m (p) r (.dma (rsdQ 0))).trans (by rw [kind_rsd]; exact if_neg (fun h => h.2 rfl))

theorem amount_bar (d : Dev nD) : (Rd (F := F) m).amount (barCell p) k d = 1 := rfl
theorem amount_ag (i d : Dev nD) : (Rd (F := F) m).amount (agCell p i) k d = N := by show amountOf (kind (.dma (agQ i))) = N; rw [kind_ag]; rfl
theorem amount_rs (i d : Dev nD) : (Rd (F := F) m).amount (rsCell p i) k d = N := by show amountOf (kind (.dma (rsQ i))) = N; rw [kind_rs]; rfl
theorem amount_agd (i : Fin 16) (d : Dev nD) : (Rd (F := F) m).amount (agdCell p i) k d = N := by show amountOf (kind (.dma (agdQ i))) = N; rw [kind_agd]; rfl
theorem amount_rsd (i : Fin 16) (d : Dev nD) : (Rd (F := F) m).amount (rsdCell p i) k d = N := by show amountOf (kind (.dma (rsdQ i))) = N; rw [kind_rsd]; rfl

theorem expect_one (g : GSem nD τ sig) (d : Dev nD) (hd : (Rd (F := F) m).duties g k = {d}) (ha : (Rd (F := F) m).amount g k d = N) :
    (Rd (F := F) m).expect g k = N := by
  unfold Schedule.expect Schedule.amountOf; rw [hd, Finset.sum_singleton, ha]
theorem expect_bar : (Rd (F := F) m).expect (barCell p) 0 = 15 := by
  unfold Schedule.expect Schedule.amountOf
  rw [duties_bar, Finset.sum_congr rfl fun d _ => amount_bar m p 0 d, Finset.sum_const, Finset.card_erase_of_mem (Finset.mem_univ _)]
  rfl

theorem payload_bar (d : Dev nD) : (Rd (F := F) m).payload (barCell p) k d = barPay p d := rfl
theorem payload_ag (i d : Dev nD) : (Rd (F := F) m).payload (agCell p i) k d = agPay m k p i := by
  show payOf m (kind (.dma (agQ i))) p k d = _; rw [kind_ag]; rfl
theorem payload_rs (i d : Dev nD) : (Rd (F := F) m).payload (rsCell p i) k d = rsPay m k p i := by
  show payOf m (kind (.dma (rsQ i))) p k d = _; rw [kind_rs]; rfl
theorem payload_agd (i : Fin 16) (d : Dev nD) : (Rd (F := F) m).payload (agdCell p i) k d = xgT p (i.val - 1) (XG m k p) := by
  show payOf m (kind (.dma (agdQ i))) p k d = _; rw [kind_agd]; rfl
theorem payload_rsd (i : Fin 16) (d : Dev nD) : (Rd (F := F) m).payload (rsdCell p i) k d = ptS p i.val (PART m k p) := by
  show payOf m (kind (.dma (rsdQ i))) p k d = _; rw [kind_rsd]; rfl

/-- What a cell with one duty hands over. -/
theorem rest_one (g : GSem nD τ sig) (d : Dev nD) (hd : (Rd (F := F) m).duties g k = {d}) :
    bigSep ((Rd (F := F) m).duties g k \ ∅) (fun d => (Rd (F := F) m).payload g k d) = (Rd (F := F) m).payload g k d := by
  rw [Finset.sdiff_empty, hd, bigSep_singleton]
end

/-! ## What is owed, and the levels -/

/-- A debt: the cell, the layer, the amount. -/
abbrev Due : Type := GSem nD τ sig × ℕ × ℕ
/-- The debts of a list, the first the last summand. -/
def tl : List Due → CellTallies nD τ sig ℕ
  | [] => 0
  | x :: l => tl l + tallyAt x.1 x.2.1 x.2.2

def barDue (c : Dev nD) (r : Fin 15) : Due := (barCell (pr c r), 0, 1)
def agDue (k : ℕ) (c : Dev nD) (r : Fin 15) : Due := (agCell (pr c r) c, k, N)
def rsDue (k : ℕ) (c : Dev nD) (r : Fin 15) : Due := (rsCell (pr c r) c, k, N)
/-- The debts of a layer before others. -/
def layDue (k : ℕ) (c : Dev nD) (rest : List Due) : List Due := all15.map (agDue k c) ++ (all15.map (rsDue k c) ++ rest)
def allDue (c : Dev nD) : List Due := all15.map (barDue c) ++ layDue 0 c (layDue 1 c (layDue 2 c []))

def L (g : GSem nD τ sig) : Finset ℕ := if g.1.2 = .tc then Finset.range 3 else ∅
def lvK (kd : Kind) (k : ℕ) : ℕ := match kd with
  | .bar => 1
  | .ag _ => 2 + 2 * k
  | .rs _ => 3 + 2 * k
  | _ => 0
/-- Staging and send cells lowest, then the barrier, then layer by layer the inputs and the partial results. -/
def lv (g : GSem nD τ sig) (k : ℕ) : ℕ := lvK (kind g.2) k

theorem L_of_ne (g : GSem nD τ sig) (h : g.1.2 ≠ .tc) : L g = ∅ := if_neg h
theorem L_tc (c : Dev nD) (sm : SemLoc sig) : L ((c : Thread nD τ), sm) = Finset.range 3 := if_pos rfl
theorem lv_bar (p : Dev nD) (k : ℕ) : lv (barCell p) k = 1 := rfl
theorem lv_ag (p i : Dev nD) (k : ℕ) : lv (agCell p i) k = 2 + 2 * k := by show lvK (kind (.dma (agQ i))) k = _; rw [kind_ag]; rfl
theorem lv_rs (p i : Dev nD) (k : ℕ) : lv (rsCell p i) k = 3 + 2 * k := by show lvK (kind (.dma (rsQ i))) k = _; rw [kind_rs]; rfl
theorem lv_agd (p : Dev nD) (i : Fin 16) (k : ℕ) : lv (agdCell p i) k = 0 := by show lvK (kind (.dma (agdQ i))) k = _; rw [kind_agd]; rfl
theorem lv_rsd (p : Dev nD) (i : Fin 16) (k : ℕ) : lv (rsdCell p i) k = 0 := by show lvK (kind (.dma (rsdQ i))) k = _; rw [kind_rsd]; rfl

/-- Every debt of the list lies above `b`. -/
def Above (b : ℕ) (l : List Due) : Prop := ∀ x ∈ l, x.1.1.2 = .tc ∧ x.2.1 < 3 ∧ b < lv x.1 x.2.1

theorem Above.mono {b b' : ℕ} {l : List Due} (h : Above b l) (hb : b' ≤ b) : Above b' l := fun x hx =>
  ⟨(h x hx).1, (h x hx).2.1, lt_of_le_of_lt hb (h x hx).2.2⟩
theorem Above.append {b : ℕ} {l l' : List Due} (h : Above b l) (h' : Above b l') : Above b (l ++ l') := fun x hx =>
  (List.mem_append.mp hx).elim (h x) (h' x)
theorem above_nil (b : ℕ) : Above b [] := fun x hx => absurd hx List.not_mem_nil
theorem above_ag {b k : ℕ} (hk : k < 3) (hb : b < 2 + 2 * k) (c : Dev nD) (l : List (Fin 15)) : Above b (l.map (agDue k c)) := fun x hx => by
  obtain ⟨r, -, rfl⟩ := List.mem_map.mp hx
  exact ⟨rfl, hk, by show b < lv (agCell (pr c r) c) k; rw [lv_ag]; exact hb⟩
theorem above_rs {b k : ℕ} (hk : k < 3) (hb : b < 3 + 2 * k) (c : Dev nD) (l : List (Fin 15)) : Above b (l.map (rsDue k c)) := fun x hx => by
  obtain ⟨r, -, rfl⟩ := List.mem_map.mp hx
  exact ⟨rfl, hk, by show b < lv (rsCell (pr c r) c) k; rw [lv_rs]; exact hb⟩
theorem above_bar {b : ℕ} (hb : b < 1) (c : Dev nD) (l : List (Fin 15)) : Above b (l.map (barDue c)) := fun x hx => by
  obtain ⟨r, -, rfl⟩ := List.mem_map.mp hx
  exact ⟨rfl, by show 0 < 3; decide, hb⟩
theorem above_lay {b k : ℕ} (hk : k < 3) (hb : b < 2 + 2 * k) (c : Dev nD) {l : List Due} (h : Above b l) : Above b (layDue k c l) :=
  (above_ag hk hb c _).append ((above_rs hk (by omega) c _).append h)
theorem above_all (c : Dev nD) : Above 0 (allDue c) :=
  (above_bar (by omega) c _).append (above_lay (by omega) (by omega) c (above_lay (by omega) (by omega) c (above_lay (by omega) (by omega) c (above_nil 0))))

theorem tl_pos {l : List Due} {g : GSem nD τ sig} {k : ℕ} (h : 0 < tl l g k) : ∃ x ∈ l, g = x.1 ∧ k = x.2.1 := by
  induction l with
  | nil => exact absurd h (Nat.lt_irrefl 0)
  | cons x l ih =>
    by_cases hx : g = x.1 ∧ k = x.2.1
    · exact ⟨x, List.mem_cons_self, hx⟩
    · have h' : 0 < (tl l + tallyAt x.1 x.2.1 x.2.2 : CellTallies nD τ sig ℕ) g k := h
      rw [Pi.add_apply, Finsupp.add_apply, tallyAt_apply, if_neg hx, Nat.add_zero] at h'
      obtain ⟨y, hy, e⟩ := ih h'
      exact ⟨y, List.mem_cons_of_mem _ hy, e⟩

/-- A wait below all that is owed. -/
theorem mayWait_tl (c : Dev nD) (sm : SemLoc sig) (k b : ℕ) (hk : k < 3) (hb : lv ((c : Thread nD τ), sm) k ≤ b) {l : List Due} (hl : Above b l) :
    (levAts L lv : sProp 𝕄) ⊢ MayWait (c : Thread nD τ) sm k (tl l) :=
  MayOwe.of_cut (L := L) (lev := lv) b (fun p hp => by rw [Finset.mem_singleton.mp hp, L_tc]; exact Finset.mem_range.mpr hk)
    (fun g u hg => by
      obtain ⟨x, hx, rfl, rfl⟩ := tl_pos hg
      show _ ∈ (if _ then _ else _)
      rw [if_pos (hl x hx).1]; exact Finset.mem_range.mpr (hl x hx).2.1)
    (fun p hp => by rw [Finset.mem_singleton.mp hp]; exact hb)
    (fun g u hg => by
      obtain ⟨x, hx, rfl, rfl⟩ := tl_pos hg
      exact (hl x hx).2.2)

/-- What is left to pay, whatever has been waited for. -/
def ow (c : Dev nD) (l : List Due) : sProp 𝕄 := iprop(∃ W, owes (c : Thread nD τ) (tl l) W)

/-! ## The records -/

/-- A device's cells: the barrier's and the sixty-four of the copies. -/
def csem : Option (Fin 64) → SemLoc sig
  | none => .reg barSem
  | some j => .dma ⟨8 + j.val, by show 8 + j.val < 72; omega⟩
abbrev kcell (x : Dev nD × Option (Fin 64)) : GSem nD τ sig := ((x.1 : Thread nD τ), csem x.2)

/-- What every device knows: each cell's invariant, that round 0 is reached, and the levels. -/
def recs : sProp 𝕄 :=
  iprop((bigSep Finset.univ fun x : Dev nD × Option (Fin 64) => iprop((∃ κ : ℕ, cellInv ER (Rd m) κ (kcell x)) ∗ reached ER (kcell x) 0)) ∗ levAts L lv)

instance recs_persistent : BI.Persistent (recs m) := by unfold recs; infer_instance

theorem recs_lev : recs m ⊢ levAts L lv := by unfold recs; iintro ⟨-, H⟩; iexact H
theorem recs_cell (x : Dev nD × Option (Fin 64)) (g : GSem nD τ sig) (hg : kcell x = g) :
    recs m ⊢ iprop((∃ κ : ℕ, cellInv ER (Rd m) κ g) ∗ reached ER g 0) := by
  subst hg; unfold recs; exact BI.Entails.trans (BI.Entails.trans BI.sep_and BI.and_elimL) (BI.bigSep_elim (Finset.mem_univ x))
theorem recs_bar (p : Dev nD) : recs m ⊢ iprop((∃ κ : ℕ, cellInv ER (Rd m) κ (barCell p)) ∗ reached ER (barCell p) 0) := recs_cell m (p, none) _ rfl
theorem csem_ag : ∀ i : Fin 16, csem (some ⟨i.val, by omega⟩) = .dma (agQ i) := by decide
theorem csem_rs : ∀ i : Fin 16, csem (some ⟨16 + i.val, by omega⟩) = .dma (rsQ i) := by decide
theorem csem_agd : ∀ i : Fin 16, csem (some ⟨32 + i.val, by omega⟩) = .dma (agdQ i) := by decide
theorem csem_rsd : ∀ i : Fin 16, csem (some ⟨48 + i.val, by omega⟩) = .dma (rsdQ i) := by decide
theorem recs_ag (p i : Dev nD) : recs m ⊢ iprop((∃ κ : ℕ, cellInv ER (Rd m) κ (agCell p i)) ∗ reached ER (agCell p i) 0) :=
  recs_cell m (p, some ⟨i.val, Nat.lt_of_lt_of_le i.isLt (by decide)⟩) _ (congrArg (Prod.mk (p : Thread nD τ)) (csem_ag i))
theorem recs_rs (p i : Dev nD) : recs m ⊢ iprop((∃ κ : ℕ, cellInv ER (Rd m) κ (rsCell p i)) ∗ reached ER (rsCell p i) 0) :=
  recs_cell m (p, some ⟨16 + i.val, by have : i.val < 16 := i.isLt; omega⟩) _ (congrArg (Prod.mk (p : Thread nD τ)) (csem_rs i))
theorem recs_agd (p : Dev nD) (i : Fin 16) : recs m ⊢ iprop((∃ κ : ℕ, cellInv ER (Rd m) κ (agdCell p i)) ∗ reached ER (agdCell p i) 0) :=
  recs_cell m (p, some ⟨32 + i.val, by omega⟩) _ (congrArg (Prod.mk (p : Thread nD τ)) (csem_agd i))
theorem recs_rsd (p : Dev nD) (i : Fin 16) : recs m ⊢ iprop((∃ κ : ℕ, cellInv ER (Rd m) κ (rsdCell p i)) ∗ reached ER (rsdCell p i) 0) :=
  recs_cell m (p, some ⟨48 + i.val, by omega⟩) _ (congrArg (Prod.mk (p : Thread nD τ)) (csem_rsd i))

end Cert.KernelIdeal.Mlp
-- ==== Proof.Ideal.Steps.lean ====
/- One rule for each operation of the kernel: what a device hands in and what it gets back. -/
module

public import proofs.«01_k».proof.Proof.Ideal.Protocol

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- No call of the kernel has a variant. -/
abbrev 𝒱₀ : Variants := Variants.none

/-- The weakest precondition of a program of device `c`'s core. -/
abbrev wpk (c : Dev nD) {α : Type} (p : KP F α) (Q : α → sProp 𝕄) : sProp 𝕄 :=
  wp frame (wpE (defs₀ (F := F)) 𝒱₀ (c : Thread nD τ) none) Set.univ p Q

theorem wpk_mono (c : Dev nD) {α : Type} (p : KP F α) {Q Q' : α → sProp 𝕄} (h : ∀ a, Q a ⊢ Q' a) : wpk c p Q ⊢ wpk c p Q' := wp_mono _ _ _ h
/-- A rule used: hand in what it asks, go on from what it gives. -/
theorem wpk_use {c : Dev nD} {α : Type} {p : KP F α} {P : sProp 𝕄} {Q : α → sProp 𝕄} (h : P ⊢ wpk c p Q) (Q' : α → sProp 𝕄) :
    P ⊢ iprop((∀ a, Q a -∗ Q' a) -∗ wpk c p Q') := h.trans (wp_wand _ _ _)

variable (m : (ℓ : Loc nD τ sig) → Buf (Elt F) ℓ)

/-! ## The state of a device towards one peer -/

section
variable (k : ℕ) (c : Dev nD) (r : Fin 15)
/-- The peer's slot for this device's block at the layer's start; after the last layer, its own slot. -/
def SLOT : sProp 𝕄 :=
  if k < 3 then iprop((∃ f, xgS (pr c r) (15 - r.val) f) ∗ reached ER (agCell (pr c r) c) k) else iprop(∃ f, xgS c (r.val + 1) f)
/-- What goes along with the layer's input. -/
def MINE : sProp 𝕄 := agX k (pr c r) c
/-- In the first layer, the peer's block of results, from the barrier. -/
def HAVE : sProp 𝕄 := match k with
  | 0 => iprop(∃ f, rsS (pr c r) c.val f)
  | _ + 1 => iprop(emp)
/-- The peer's block of results, once its input has come. -/
def INN : sProp 𝕄 := iprop((∃ f, rsS (pr c r) c.val f) ∗ reached ER (rsCell (pr c r) c) k)
/-- What stays of the slot once the result is sent. -/
def LEFT : sProp 𝕄 := if k < 2 then iprop(emp) else iprop(∃ f, xgS c (r.val + 1) f)
def PG : sProp 𝕄 := iprop(atPos ER (agCell c (pr c r)) k ∅ 0 ∗ reached ER (agCell c (pr c r)) k)
def PS : sProp 𝕄 := atPos ER (rsCell c (pr c r)) k ∅ 0
def PGD : sProp 𝕄 := iprop(atPos ER (agdCell c (ix r)) k ∅ 0 ∗ reached ER (agdCell c (ix r)) k)
def PSD : sProp 𝕄 := iprop(atPos ER (rsdCell c (ix r)) k ∅ 0 ∗ reached ER (rsdCell c (ix r)) k)
def TG : sProp 𝕄 := iprop(dutyTok ER (agCell (pr c r) c) k c ∗ dutyTok ER (agdCell c (ix r)) k c)
def TS : sProp 𝕄 := iprop(dutyTok ER (rsCell (pr c r) c) k c ∗ dutyTok ER (rsdCell c (ix r)) k c)
def CG : sProp 𝕄 := cred (tallyAt (agCell c (pr c r)) k N)
def CS : sProp 𝕄 := cred (tallyAt (rsCell c (pr c r)) k N)
def CGD : sProp 𝕄 := cred (tallyAt (agdCell c (ix r)) 0 N)
def CSD : sProp 𝕄 := cred (tallyAt (rsdCell c (ix r)) 0 N)
end

/-! ## The sends -/

theorem eqv_of_agree {ℓ : Loc nD τ sig} {S : Finset (Idx ℓ)} {q : PosShare TreeShare} {f g : Buf (Elt F) ℓ} (h : ∀ i ∈ S, f i = g i) :
    (ℓ ↦[S]{q} f : sProp 𝕄) ⊢ ℓ ↦[S]{q} g := Entails.of_eq (pointsTo_congr h)

/-- The send of a layer's input, its target and semaphores named. -/
theorem wp_agSend_op (k : ℕ) (hk : k < 3) (c : Dev nD) (r : Fin 15) (l : List Due) (n : Dev nD) (hn : n = pr c r) (sA sD : DmaSem sig) (hA : sA = agQ c) (hD : sD = agdQ (ix r))
    {hsc : (rowM xgM (15 - r.val) (lt_rv r) : Memref sig (Dev.tc n : Thread nD τ).2.kind .vmem S64x512 .bf16).view.ref.isScScratch = false}
    {hsrc : (rowM xgM 0 z16).view.WordExact} {hdst : (rowM xgM (15 - r.val) (lt_rv r)).view.WordExact}
    {hsem : DmaTarget.Typed .vmem (.dma sA) (.remote (Dev.tc n : Thread nD τ) (rowM xgM (15 - r.val) (lt_rv r)) (.dma sD) hsc)} {Q : PUnit → sProp 𝕄} :
    iprop(recs m ∗ ow c (agDue k c r :: l) ∗ xgT c r.val (XG m k c) ∗ (∃ f, xgS (pr c r) (15 - r.val) f) ∗ reached ER (agCell (pr c r) c) k ∗ MINE k c r ∗ TG k c r ∗ reached ER (agdCell c (ix r)) k
        ∗ ((ow c l ∗ CGD c r) -∗ Q ⟨⟩))
      ⊢ wpk c (Prog.lift (.enqueueDma (rowM xgM 0 z16) (.remote (Dev.tc n : Thread nD τ) (rowM xgM (15 - r.val) (lt_rv r)) (.dma sD) hsc) (.dma sA) hsrc hdst hsem)) Q := by
  subst hn; subst hA; subst hD
  unfold ow TG MINE CGD Prog.lift
  iintro ⟨#HR, ⟨%W, HO⟩, Hx, ⟨%fd, Hd⟩, #HrA, HM, ⟨HtA, HtD⟩, #HrD, HQ⟩
  ihave ⟨⟨%κ₁, #I1⟩, -⟩ := (recs_agd m c (ix r)) $$ HR
  ihave ⟨⟨%κ₂, #I2⟩, -⟩ := (recs_ag m (pr c r) c) $$ HR
  iapply (Rounds.wp_send_pointsTo_with 𝒱₀ ER (Rd m) (c : Thread nD τ) none (κ₁ := κ₁) (κ₂ := κ₂) (r₁ := k) (r₂ := k) (d₁ := c) (d₂ := c)
      (c' := ((pr c r : Dev nD) : Thread nD τ)) (fs := XG m k c) (fd := fd) (F := agX k (pr c r) c) (src := rowM xgM 0 z16) (dst := rowM xgM (15 - r.val) (lt_rv r)) (q := Transfers.shareTokN fullShare r.val)
      (by rw [duties_agd m c k r hk]; exact Finset.mem_singleton_self _) (by rw [duties_ag' m c k r hk]; exact Finset.mem_singleton_self _)
      k 0 N rfl (amount_agd m c k (ix r) c) (amount_ag m (pr c r) k c c) (tl l) rfl (W := W)
      (by rw [payload_agd]; unfold xgT; rw [set_rowM0]; exact BI.Entails.refl _)
      (by
        rw [payload_ag]; unfold agPay xgS xgP; rw [slotOf_back, set_rowM0]
        exact sep_mono_left (eqv_of_agree (ag_agree m k c r fd)))) $$ [Hx Hd HO HtA HtD HM]
  · rw [set_rowM0, set_rowM0]; unfold xgT xgS xgP agDue
    iframe
    iframe #
    iexact HO
  iintro ⟨HC, HO⟩
  rw [wp_ret]; imodintro
  iapply HQ
  iframe HC
  iexists W; iexact HO

theorem wp_agSend (k : ℕ) (hk : k < 3) (c : Dev nD) (r : Fin 15) (l : List Due) :
    iprop(recs m ∗ ow c (agDue k c r :: l) ∗ xgT c r.val (XG m k c) ∗ SLOT k c r ∗ MINE k c r ∗ TG k c r ∗ PGD k c r)
      ⊢ wpk c (agSend xgM (Memref.isWhole_whole _) cc0_scratch3 cc0_scratch5 c r) fun _ => iprop(ow c l ∗ PGD k c r ∗ CGD c r) := by
  unfold SLOT PGD agSend
  rw [if_pos hk]
  iintro ⟨#HR, HO, Hx, ⟨Hd, #HrA⟩, HM, HT, ⟨Hat, #HrD⟩⟩
  iapply (wp_agSend_op m k hk c r l (peer c r) (peer_eq c r) (semOwn cc0_scratch3 c).sem (semAt cc0_scratch5 r).sem (semOwn_ag c) (semAt_agd r))
  iframe
  iframe #
  iintro ⟨HO, HC⟩
  iframe

/-- The send of a partial result, its target and semaphores named. -/
theorem wp_rsSend_op (k : ℕ) (hk : k < 3) (c : Dev nD) (r : Fin 15) (l : List Due) (n : Dev nD) (hn : n = pr c r) (sA sD : DmaSem sig) (hA : sA = rsQ c) (hD : sD = rsdQ (ix r))
    {hsc : (ownM rsM c : Memref sig (Dev.tc n : Thread nD τ).2.kind .vmem S64x512 .bf16).view.ref.isScScratch = false}
    {hsrc : (rowM partM (r.val + 1) (lt_ix r)).view.WordExact} {hdst : (ownM rsM c).view.WordExact}
    {hsem : DmaTarget.Typed .vmem (.dma sA) (.remote (Dev.tc n : Thread nD τ) (ownM rsM c) (.dma sD) hsc)} {Q : PUnit → sProp 𝕄} :
    iprop(recs m ∗ ow c (rsDue k c r :: l) ∗ ptS c (r.val + 1) (PART m k c) ∗ INN k c r ∗ rsX k (pr c r) c ∗ TS k c r ∗ reached ER (rsdCell c (ix r)) k
        ∗ ((ow c l ∗ CSD c r) -∗ Q ⟨⟩))
      ⊢ wpk c (Prog.lift (.enqueueDma (rowM partM (r.val + 1) (lt_ix r)) (.remote (Dev.tc n : Thread nD τ) (ownM rsM c) (.dma sD) hsc) (.dma sA) hsrc hdst hsem)) Q := by
  subst hn; subst hA; subst hD
  unfold ow TS INN CSD Prog.lift
  iintro ⟨#HR, ⟨%W, HO⟩, Hx, ⟨⟨%fd, Hd⟩, #HrA⟩, HM, ⟨HtA, HtD⟩, #HrD, HQ⟩
  ihave ⟨⟨%κ₁, #I1⟩, -⟩ := (recs_rsd m c (ix r)) $$ HR
  ihave ⟨⟨%κ₂, #I2⟩, -⟩ := (recs_rs m (pr c r) c) $$ HR
  iapply (Rounds.wp_send_pointsTo_with 𝒱₀ ER (Rd m) (c : Thread nD τ) none (κ₁ := κ₁) (κ₂ := κ₂) (r₁ := k) (r₂ := k) (d₁ := c) (d₂ := c)
      (c' := ((pr c r : Dev nD) : Thread nD τ)) (fs := PART m k c) (fd := fd) (F := rsX k (pr c r) c) (src := rowM partM (r.val + 1) (lt_ix r)) (dst := ownM rsM c) (q := fullShare)
      (by rw [duties_rsd m c k r hk]; exact Finset.mem_singleton_self _) (by rw [duties_rs' m c k r hk]; exact Finset.mem_singleton_self _)
      k 0 N rfl (amount_rsd m c k (ix r) c) (amount_rs m (pr c r) k c c) (tl l) rfl (W := W)
      (by rw [payload_rsd]; unfold ptS ptP; rw [set_rowM1])
      (by
        rw [payload_rs]; unfold rsPay rsS; rw [set_ownM]
        exact sep_mono_left (eqv_of_agree (rs_agree m k c r fd)))) $$ [Hx Hd HO HtA HtD HM]
  · rw [set_rowM1, set_ownM]; unfold ptS ptP rsS rsDue
    iframe
    iframe #
    iexact HO
  iintro ⟨HC, HO⟩
  rw [wp_ret]; imodintro
  iapply HQ
  iframe HC
  iexists W; iexact HO

theorem wp_rsSend (k : ℕ) (hk : k < 3) (c : Dev nD) (r : Fin 15) (l : List Due) :
    iprop(recs m ∗ ow c (rsDue k c r :: l) ∗ xgS c (r.val + 1) (XG m k c) ∗ ptS c (r.val + 1) (PART m k c) ∗ INN k c r ∗ TS k c r ∗ PSD k c r ∗ PG (k + 1) c r)
      ⊢ wpk c (rsSend partM (Memref.isWhole_whole _) rsM (Memref.isWhole_whole _) cc0_scratch4 cc0_scratch6 c r)
        fun _ => iprop(ow c l ∗ PG (k + 1) c r ∗ PSD k c r ∗ CSD c r ∗ LEFT k c r) := by
  unfold PSD PG rsSend
  iintro ⟨#HR, HO, Hg, Hx, HI, HT, ⟨Hat, #HrD⟩, ⟨HatG, #HrG⟩⟩
  ihave ⟨HX, HL⟩ := (show xgS c (r.val + 1) (XG m k c) ∗ reached ER (agCell c (pr c r)) (k + 1) ⊢ iprop(rsX k (pr c r) c ∗ LEFT k c r) from by
    unfold rsX LEFT; rw [slotOf_pr]
    split
    · iintro ⟨Hg, #Hr⟩; isplitl [Hg]
      · isplitl [Hg]
        · iexists _; iexact Hg
        · iexact Hr
      · iempintro
    · iintro ⟨Hg, #Hr⟩; isplitr
      · iempintro
      · iexists _; iexact Hg) $$ [Hg]
  · iframe; iexact HrG
  iapply (wp_rsSend_op m k hk c r l (peer c r) (peer_eq c r) (semOwn cc0_scratch4 c).sem (semAt cc0_scratch6 r).sem (semOwn_rs c) (semAt_rsd r))
  iframe HO Hx HI HX HT
  isplitr; · iexact HR
  isplitr; · iexact HrD
  iintro ⟨HO, HC⟩
  iframe
  iframe #

/-! ## The waits -/

/-- A wait for one transfer on an own cell with one duty. -/
theorem wp_wait_op (k : ℕ) (u : ℕ) (hu : u < 3) (c : Dev nD) (sm : DmaSem sig) (b : ℕ) (hb : lv ((c : Thread nD τ), .dma sm) u ≤ b) (l : List Due) (hl : Above b l) (d : Dev nD)
    (hd : (Rd (F := F) m).duties ((c : Thread nD τ), .dma sm) k = {d}) (ha : (Rd (F := F) m).amount ((c : Thread nD τ), .dma sm) k d = N)
    (hI : recs m ⊢ iprop((∃ κ : ℕ, cellInv ER (Rd m) κ ((c : Thread nD τ), .dma sm)) ∗ reached ER ((c : Thread nD τ), .dma sm) 0))
    {s s' : Shape} {e e' : EltTy} {sp sp' : Space} (src : Memref sig .tc sp' s' e') (dst : Memref sig .tc sp s e) (hN : dst.view.dmaCredit = N)
    {hsrc : src.view.WordExact} {hdst : dst.view.WordExact} (sm' : DmaSem sig) (hs : sm' = sm) :
    iprop(recs m ∗ ow c l ∗ cred (tallyAt ((c : Thread nD τ), .dma sm) u N) ∗ atPos ER ((c : Thread nD τ), .dma sm) k ∅ 0)
      ⊢ wpk c (Prog.lift (.waitDma2 sm' src dst hsrc hdst)) fun _ => iprop(ow c l ∗ atPos ER ((c : Thread nD τ), .dma sm) (k + 1) ∅ 0
          ∗ reached ER ((c : Thread nD τ), .dma sm) (k + 1) ∗ (Rd m).payload ((c : Thread nD τ), .dma sm) k d) := by
  subst hs
  unfold ow Prog.lift
  iintro ⟨#HR, ⟨%W, HO⟩, HC, Hat⟩
  ihave ⟨⟨%κ, #I⟩, -⟩ := hI $$ HR
  ihave #Hlev := (recs_lev m) $$ HR
  iapply (Rounds.wp_wait_rest_token 𝒱₀ ER (Rd m) (c : Thread nD τ) none (κ := κ)
      (wpE_waitDma2_eq 𝒱₀ (c : Thread nD τ) none Set.univ) (Set.mem_univ _) u (O := tl l) (W := W) (R := k) (m := 0) (T := ∅)
      (by rw [Nat.zero_add, expect_one m k _ d hd ha]; exact hN)) $$ [HC HO Hat]
  · rw [hN]
    iframe HC HO Hat
    isplitr; · iexact I
    iapply (mayWait_tl c (.dma sm') u b hu hb hl); iexact Hlev
  iintro ⟨HO, Hat, #Hr, Hpay⟩
  rw [wp_ret]; imodintro
  iframe Hat
  isplitl [HO]; · iexists _; iexact HO
  isplitr; · iexact Hr
  ihave Hp := (Entails.of_eq (rest_one m k _ d hd)) $$ Hpay
  iexact Hp

theorem wp_agWait (k : ℕ) (hk : k < 3) (c : Dev nD) (r : Fin 15) (l : List Due) (hl : Above (2 + 2 * k) l) :
    iprop(recs m ∗ ow c l ∗ CG k c r ∗ PG k c r ∗ HAVE k c r)
      ⊢ wpk c (agWait xgM (Memref.isWhole_whole _) cc0_scratch3 c r) fun _ => iprop(ow c l ∗ PG (k + 1) c r ∗ xgS c (r.val + 1) (XG m k c) ∗ INN k c r) := by
  iintro ⟨#HR, HO, HC, HP, HH⟩
  iapply (wpk_use (wp_wait_op m k k hk c (agQ (pr c r)) (2 + 2 * k) (le_of_eq (lv_ag c (pr c r) k)) l hl (pr c r) (duties_ag m c k r hk) (amount_ag m c k (pr c r) (pr c r)) (recs_ag m c (pr c r))
        (rowM xgM (r.val + 1) (lt_ix r)) (rowM xgM (r.val + 1) (lt_ix r)) (N_row _ _) _ (semPeer_ag c r)) _) $$ [HO HC HP]
  · unfold PG CG
    icases HP with ⟨HP, -⟩
    iframe HO HC HP
    iexact HR
  iintro %a ⟨HO, Hat, #Hr, Hpay⟩
  ihave Hp := (Entails.of_eq ((payload_ag m c k (pr c r) (pr c r)).trans (by unfold agPay; rw [slotOf_pr]))) $$ Hpay
  icases Hp with ⟨Hx, HX⟩
  unfold PG INN
  iframe HO Hat Hx
  isplitr; · iexact Hr
  cases k with
  | zero =>
    unfold HAVE agX
    ihave ⟨-, #H0⟩ := (recs_rs m (pr c r) c) $$ HR
    icases HX with -
    iframe HH; iexact H0
  | succ k =>
    unfold HAVE agX
    icases HH with -
    iexact HX

theorem wp_rsWait (k : ℕ) (hk : k < 3) (c : Dev nD) (r : Fin 15) (l : List Due) (hl : Above (3 + 2 * k) l) :
    iprop(recs m ∗ ow c l ∗ CS k c r ∗ PS k c r)
      ⊢ wpk c (rsWait partM (Memref.isWhole_whole _) rsM (Memref.isWhole_whole _) cc0_scratch4 c r)
        fun _ => iprop(ow c l ∗ PS (k + 1) c r ∗ reached ER (rsCell c (pr c r)) (k + 1) ∗ rsS c (pr c r).val (RS m k c) ∗ rsX k c (pr c r)) := by
  iintro ⟨#HR, HO, HC, HP⟩
  iapply (wpk_use (wp_wait_op m k k hk c (rsQ (pr c r)) (3 + 2 * k) (le_of_eq (lv_rs c (pr c r) k)) l hl (pr c r) (duties_rs m c k r hk) (amount_rs m c k (pr c r) (pr c r)) (recs_rs m c (pr c r))
        (rowM partM (r.val + 1) (lt_ix r)) (peerM rsM c r) (N_peer _ _) _ (semPeer_rs c r)) _) $$ [HO HC HP]
  · unfold PS CS
    iframe HO HC HP
    iexact HR
  iintro %a ⟨HO, Hat, #Hr, Hpay⟩
  ihave Hp := (Entails.of_eq ((payload_rs m c k (pr c r) (pr c r)).trans (by unfold rsPay; rfl))) $$ Hpay
  icases Hp with ⟨Hx, HX⟩
  unfold PS
  iframe HO Hat Hx HX
  iexact Hr

theorem wp_agDone (k : ℕ) (hk : k < 3) (c : Dev nD) (r : Fin 15) (l : List Due) (hl : Above 0 l) :
    iprop(recs m ∗ ow c l ∗ CGD c r ∗ PGD k c r)
      ⊢ wpk c (agDone xgM (Memref.isWhole_whole _) cc0_scratch5 r) fun _ => iprop(ow c l ∗ PGD (k + 1) c r ∗ xgT c r.val (XG m k c)) := by
  iintro ⟨#HR, HO, HC, HP⟩
  iapply (wpk_use (wp_wait_op m k 0 (by omega) c (agdQ (ix r)) 0 (le_of_eq (lv_agd c (ix r) 0)) l hl c (duties_agd m c k r hk) (amount_agd m c k (ix r) c) (recs_agd m c (ix r))
        (rowM xgM (15 - r.val) (lt_rv r)) (rowM xgM 0 z16) (N_row _ _) _ (semAt_agd r)) _) $$ [HO HC HP]
  · unfold PGD CGD
    icases HP with ⟨HP, -⟩
    iframe HO HC HP
    iexact HR
  iintro %a ⟨HO, Hat, #Hr, Hpay⟩
  ihave Hp := (Entails.of_eq (payload_agd m c k (ix r) c)) $$ Hpay
  unfold PGD
  iframe HO Hat Hp
  iexact Hr

theorem wp_rsDone (k : ℕ) (hk : k < 3) (c : Dev nD) (r : Fin 15) (l : List Due) (hl : Above 0 l) :
    iprop(recs m ∗ ow c l ∗ CSD c r ∗ PSD k c r)
      ⊢ wpk c (rsDone partM (Memref.isWhole_whole _) rsM (Memref.isWhole_whole _) cc0_scratch6 c r)
        fun _ => iprop(ow c l ∗ PSD (k + 1) c r ∗ ptS c (r.val + 1) (PART m k c)) := by
  iintro ⟨#HR, HO, HC, HP⟩
  iapply (wpk_use (wp_wait_op m k 0 (by omega) c (rsdQ (ix r)) 0 (le_of_eq (lv_rsd c (ix r) 0)) l hl c (duties_rsd m c k r hk) (amount_rsd m c k (ix r) c) (recs_rsd m c (ix r))
        (ownM rsM c) (rowM partM (r.val + 1) (lt_ix r)) (N_part _ _) _ (semAt_rsd r)) _) $$ [HO HC HP]
  · unfold PSD CSD
    icases HP with ⟨HP, -⟩
    iframe HO HC HP
    iexact HR
  iintro %a ⟨HO, Hat, #Hr, Hpay⟩
  ihave Hp := (Entails.of_eq (payload_rsd m c k (ix r) c)) $$ Hpay
  unfold PSD
  iframe HO Hat Hp
  iexact Hr

/-! ## The barrier -/

theorem wp_say_op (c : Dev nD) (r : Fin 15) (l : List Due) (n : Dev nD) (hn : n = pr c r) :
    iprop(recs m ∗ ow c (barDue c r :: l) ∗ dutyTok ER (barCell (pr c r)) 0 c ∗ barPay (pr c r) c)
      ⊢ wpk c (semSignalWord n barSem 1#32) fun _ => iprop(ow c l) := by
  subst hn
  unfold ow semSignalWord
  iintro ⟨#HR, ⟨%W, HO⟩, Ht, Hp⟩
  ihave ⟨⟨%κ, #I⟩, #H0⟩ := (recs_bar m (pr c r)) $$ HR
  iapply (Rounds.wp_signal 𝒱₀ ER (Rd m) (c : Thread nD τ) none (dst := ((pr c r : Dev nD) : Thread nD τ)) (κ := κ) (r := 0)
      (d := c) (by rw [duties_bar]; exact Finset.mem_erase.mpr ⟨ne_pr c r, Finset.mem_univ _⟩) (amount_bar m (pr c r) 0 c) 0 (tl l) rfl (W := W)) $$ [HO Ht Hp]
  · isplitr; · iexact I
    isplitl [HO]; · iexact HO
    isplitl [Ht]; · iexact Ht
    isplitl [Hp]; · rw [payload_bar]; iexact Hp
    iexact H0
  iintro HO
  rw [wp_ret]; imodintro
  iexists W; iexact HO

theorem wp_say (c : Dev nD) (r : Fin 15) (l : List Due) :
    iprop(recs m ∗ ow c (barDue c r :: l) ∗ dutyTok ER (barCell (pr c r)) 0 c ∗ barPay (pr c r) c)
      ⊢ wpk c (sayHere c r) fun _ => iprop(ow c l) := wp_say_op m c r l (peer c r) (peer_eq c r)

theorem wp_await (c : Dev nD) (l : List Due) (hl : Above 1 l) :
    iprop(recs m ∗ ow c l ∗ cred (tallyAt (barCell c) 0 15) ∗ atPos ER (barCell c) 0 ∅ 0)
      ⊢ wpk c awaitAll fun _ => iprop(ow c l ∗ atPos ER (barCell c) 1 ∅ 0 ∗ bigSep (Finset.univ.erase c) fun d => barPay c d) := by
  unfold ow awaitAll semWaitWord
  iintro ⟨#HR, ⟨%W, HO⟩, HC, Hat⟩
  ihave ⟨⟨%κ, #I⟩, -⟩ := (recs_bar m c) $$ HR
  ihave #Hlev := (recs_lev m) $$ HR
  iapply (Rounds.wp_wait_rest_token 𝒱₀ ER (Rd m) (c : Thread nD τ) none (κ := κ) (k' := 15) (sm := .reg barSem)
      (wpE_semWait_eq 𝒱₀ (c : Thread nD τ) none Set.univ) (Set.mem_univ _) 0 (O := tl l) (W := W) (R := 0) (m := 0) (T := ∅)
      (by rw [Nat.zero_add, expect_bar])) $$ [HC HO Hat]
  · iframe HC HO Hat
    isplitr; · iexact I
    iapply (mayWait_tl c (.reg barSem) 0 1 (by omega) (le_of_eq (lv_bar c 0)) hl); iexact Hlev
  iintro ⟨HO, Hat, -, Hpay⟩
  rw [wp_ret]; imodintro
  iframe Hat
  isplitl [HO]; · iexists _; iexact HO
  ihave Hp := (Entails.of_eq (congrArg (fun S => bigSep S fun d => (Rd m).payload (barCell c) 0 d) ((Finset.sdiff_empty).trans (duties_bar m c)))) $$ Hpay
  iexact Hp

/-! ## Loads, stores and the arithmetic between them -/

theorem rect_sub {b : Ref sig .tc} (r : Rect b.ty.shape) (S : Finset b.ty.Idx) (h : r.set ⊆ S) : ((Memref.whole b : Memref sig .tc _ _ _).access r).set ⊆ S := by
  rw [show ((Memref.whole b : Memref sig .tc _ _ _).access r).set = r.set from View.set_slice_whole b r]; exact h

theorem load_sub {b : Ref sig .tc} (r : Rect b.ty.shape) (S : Finset b.ty.Idx) (h : r.set ⊆ S) : (Memref.whole b : Memref sig .tc _ _ _).view.setOn r.set ⊆ S :=
  (le_of_eq (View.set_slice _ _).symm).trans (rect_sub r S h)

theorem xg_agree (c : Dev nD) {S : Finset S1024x512.Idx} {f g : Vec F S1024x512 .bf16} (h : ∀ i ∈ S, f i = g i) :
    (((c : Thread nD τ).loc cc0_scratch0) ↦[S]{fullShare} f : sProp 𝕄) ⊢ ((c : Thread nD τ).loc cc0_scratch0) ↦[S]{fullShare} g := eqv_of_agree h
theorem pt_agree (c : Dev nD) {S : Finset S1024x512.Idx} {f g : Vec F S1024x512 .bf16} (h : ∀ i ∈ S, f i = g i) :
    (((c : Thread nD τ).loc cc0_scratch1) ↦[S]{fullShare} f : sProp 𝕄) ⊢ ((c : Thread nD τ).loc cc0_scratch1) ↦[S]{fullShare} g := eqv_of_agree h
theorem rsb_agree (c : Dev nD) {S : Finset S16x64x512.Idx} {f g : Vec F S16x64x512 .bf16} (h : ∀ i ∈ S, f i = g i) :
    (((c : Thread nD τ).loc cc0_scratch2) ↦[S]{fullShare} f : sProp 𝕄) ⊢ ((c : Thread nD τ).loc cc0_scratch2) ↦[S]{fullShare} g := eqv_of_agree h

theorem wp_fill (k : ℕ) (c : Dev nD) :
    iprop(∃ f, xgP c 0 64 f) ⊢ wpk c (fill xgM (Memref.isWhole_whole _) (X m k c)) fun _ => xgP c 0 64 (XG m k c) := by
  unfold xgP fill Prog.lift
  simp only [Prog.bind_op, Prog.bind_ret]
  iintro ⟨%f, Hx⟩
  iapply (wp_load_rect 𝒱₀ (c : Thread nD τ) none Set.univ (m := xgM) (r := rowR 0 z16) (S := rows 0 64) (rect_sub _ _ (le_of_eq (set_row cc0_scratch0 0 z16)))) $$ Hx
  iintro Hx
  iapply (wp_store 𝒱₀ (c : Thread nD τ) none Set.univ (m := xgM) (r := rowR 0 z16) (Mk := Finset.univ) (S := rows 0 64) (rect_sub _ _ (le_of_eq (set_row cc0_scratch0 0 z16)))) $$ Hx
  iintro Hx
  rw [wp_ret]; imodintro
  iapply (xg_agree c (fill_agree m k c f)); iexact Hx

theorem wp_comp (k : ℕ) (c : Dev nD) (wi : Memref sig .tc .vmem S512x1024 .f32) (wo : Memref sig .tc .vmem S1024x512 .f32) (Swi Swo : sProp 𝕄)
    (hwi : Swi ⊢ wpk c (ldWi wi) fun v => iprop(⌜v = WI m k c⌝ ∗ Swi)) (hwo : Swo ⊢ wpk c (ldWo wo) fun v => iprop(⌜v = WO m k c⌝ ∗ Swo))
    (q : PosShare TreeShare) {o n : ℕ} {hi : ∀ a, (![o, 0] : Fin 2 → ℕ) a + (![n, 512] : Fin 2 → ℕ) a ≤ S1024x512.size a}
    {pay : Vec F ⟨2, ![n, 512]⟩ .bf16 → Vec F S512x1024 .f32 → Vec F S1024x512 .f32 → FVec F ⟨2, ![n, 512]⟩ .bf16} (hg : IsGrp o n hi pay)
    (hs : 0 < (⟨2, ![n, 512]⟩ : Shape).numel) (hr : (Rect.unit (s := S1024x512) ![o, 0] ![n, 512] hi).PackedRows (EltTy.packing .bf16)) :
    iprop((((c : Thread nD τ).loc cc0_scratch0) ↦[rows o (o + n)]{q} XG m k c) ∗ (∃ f, ptP c o (o + n) f) ∗ Swi ∗ Swo)
      ⊢ wpk c (comp wi wo xgM partM (Memref.isWhole_whole _) o n hi hs hr pay)
        fun _ => iprop((((c : Thread nD τ).loc cc0_scratch0) ↦[rows o (o + n)]{q} XG m k c) ∗ ptP c o (o + n) (PART m k c) ∗ Swi ∗ Swo) := by
  unfold ptP comp Prog.lift
  simp only [Prog.bind_op, Prog.bind_ret]
  iintro ⟨Hx, ⟨%f, Hp⟩, Hi, Ho⟩
  iapply (wp_load 𝒱₀ (c : Thread nD τ) none Set.univ (m := xgM) (r := (rr o n hi).toLoadRect) (S := rows o (o + n)) (load_sub _ _ (le_of_eq (rect_rows o n hi)))) $$ Hx
  iintro Hx
  rw [wp_bind]
  iapply (wpk_use hwi _) $$ Hi
  iintro %a ⟨%ha, Hi⟩
  subst ha
  rw [wp_bind]
  iapply (wpk_use hwo _) $$ Ho
  iintro %b ⟨%hb, Ho⟩
  subst hb
  iapply (wp_load_rect 𝒱₀ (c : Thread nD τ) none Set.univ (m := partM) (r := rr o n hi) (S := rows o (o + n)) (rect_sub _ _ (le_of_eq (rect_rows o n hi)))) $$ Hp
  iintro Hp
  iapply (wp_store 𝒱₀ (c : Thread nD τ) none Set.univ (m := partM) (r := rr o n hi) (Mk := Finset.univ) (S := rows o (o + n)) (rect_sub _ _ (le_of_eq (rect_rows o n hi)))) $$ Hp
  iintro Hp
  rw [wp_ret]; imodintro
  iframe Hx Hi Ho
  iapply (pt_agree c (comp_agree m hg k c f)); iexact Hp

theorem wp_own (k : ℕ) (c : Dev nD) :
    iprop(ptP c 0 64 (PART m k c) ∗ ∃ f, rsS c c.val f)
      ⊢ wpk c (own partM rsM (Memref.isWhole_whole _) c) fun _ => iprop(ptP c 0 64 (PART m k c) ∗ rsS c c.val (RS m k c)) := by
  unfold ptP rsS own Prog.lift
  simp only [Prog.bind_op, Prog.bind_ret]
  iintro ⟨Hp, ⟨%f, Hr⟩⟩
  iapply (wp_load 𝒱₀ (c : Thread nD τ) none Set.univ (m := partM) (r := (rowR 0 z16).toLoadRect) (S := rows 0 64) (load_sub _ _ (le_of_eq (set_row cc0_scratch1 0 z16)))) $$ Hp
  iintro Hp
  iapply (wp_load_rect 𝒱₀ (c : Thread nD τ) none Set.univ (m := rsM) (r := Rect.unit (s := S16x64x512) (k0_off2 c) S1x64x512.size (k0_off2_inb c)) (S := blk c.val)
    (rect_sub _ _ (le_of_eq (rect_blk _ _ (k0_off2_eq c) _)))) $$ Hr
  iintro Hr
  iapply (wp_store 𝒱₀ (c : Thread nD τ) none Set.univ (m := rsM) (r := Rect.unit (s := S16x64x512) (k0_off2 c) S1x64x512.size (k0_off2_inb c)) (Mk := Finset.univ) (S := blk c.val)
    (rect_sub _ _ (le_of_eq (rect_blk _ _ (k0_off2_eq c) _)))) $$ Hr
  iintro Hr
  rw [wp_ret]; imodintro
  iframe Hp
  iapply (rsb_agree c (own_agree m k c f)); iexact Hr

theorem hz2 : (![0, 0] : Fin 2 → ℕ) = fun _ => 0 := funext fun a => by fin_cases a <;> rfl
theorem hz3 : (![0, 0, 0] : Fin 3 → ℕ) = fun _ => 0 := funext fun a => by fin_cases a <;> rfl

/-- The whole of a buffer of a device. -/
abbrev wholeAt (c : Dev nD) (b : Ref sig .tc) (f : b.ty.Contents (Elt F)) : sProp 𝕄 := ((c : Thread nD τ).loc b) ↦{fullShare} f

theorem wp_ldRs (c : Dev nD) (f : Vec F S16x64x512 .bf16) :
    wholeAt c cc0_scratch2 f ⊢ wpk c (ldRs rsM) fun v => iprop(⌜v = f⌝ ∗ wholeAt c cc0_scratch2 f) := by
  unfold ldRs Prog.lift
  iintro H
  iapply (wp_load 𝒱₀ (c : Thread nD τ) none Set.univ (m := rsM) (Finset.subset_univ _)) $$ H
  iintro H
  rw [wp_ret]; imodintro
  iframe H
  ipureintro; exact Memref.readAt_unit_zero (Elt F) cc0_scratch2 hz3 _ f

theorem wp_stOut (c : Dev nD) (f v : Vec F S64x512 .f32) :
    wholeAt c cc0_stg7_0 f ⊢ wpk c (stOut (Memref.whole cc0_stg7_0) v) fun _ => wholeAt c cc0_stg7_0 v := by
  unfold stOut Prog.lift
  simp only [Prog.bind_op, Prog.bind_ret]
  iintro H
  iapply (wp_load 𝒱₀ (c : Thread nD τ) none Set.univ (m := Memref.whole cc0_stg7_0) (Finset.subset_univ _)) $$ H
  iintro H
  iapply (wp_store 𝒱₀ (c : Thread nD τ) none Set.univ (m := Memref.whole cc0_stg7_0) (r := Rect.unit (s := S64x512) ![0, 0] S64x512.size inb_S64x512_S64x512_0_0) (Mk := Finset.univ) (Finset.subset_univ _)) $$ H
  iintro H
  rw [wp_ret]; imodintro
  ihave H' := (Entails.of_eq (congrArg (wholeAt c cc0_stg7_0) (Memref.write_access_unit_zero_univ (Elt F) cc0_stg7_0 hz2 _ f v))) $$ H
  iexact H'

end Cert.KernelIdeal.Mlp
-- ==== Proof.Ideal.Lists.lean ====
/- Resources along a list of peers, loops over such a list, and consecutive slots as one range of rows. -/
module

public import proofs.«01_k».proof.Proof.Ideal.Steps

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- What `Φ` says of each element of a list. -/
def bsL {α : Type} : List α → (α → sProp 𝕄) → sProp 𝕄
  | [], _ => iprop(emp)
  | a :: l, Φ => iprop(Φ a ∗ bsL l Φ)

section
variable {α : Type}

theorem bsL_mono {Φ Ψ : α → sProp 𝕄} (h : ∀ a, Φ a ⊢ Ψ a) (l : List α) : bsL l Φ ⊢ bsL l Ψ := by
  induction l with
  | nil => exact BI.Entails.refl _
  | cons a l ih => exact BIClass.sep_mono (h a) ih

theorem bsL_zip (Φ Ψ : α → sProp 𝕄) (l : List α) : iprop(bsL l Φ ∗ bsL l Ψ) ⊢ bsL l fun a => iprop(Φ a ∗ Ψ a) := by
  induction l with
  | nil => unfold bsL; iintro ⟨-, -⟩; iempintro
  | cons a l ih =>
    unfold bsL
    iintro ⟨⟨H1, H2⟩, ⟨H3, H4⟩⟩
    iframe H1 H3
    iapply ih; iframe H2 H4

theorem bsL_unzip (Φ Ψ : α → sProp 𝕄) (l : List α) : (bsL l fun a => iprop(Φ a ∗ Ψ a)) ⊢ iprop(bsL l Φ ∗ bsL l Ψ) := by
  induction l with
  | nil => unfold bsL; iintro -; isplitr <;> iempintro
  | cons a l ih =>
    unfold bsL
    iintro ⟨⟨H1, H3⟩, H⟩
    ihave ⟨H2, H4⟩ := ih $$ H
    iframe

theorem bsL_append (Φ : α → sProp 𝕄) (l l' : List α) : bsL (l ++ l') Φ ⊣⊢ iprop(bsL l Φ ∗ bsL l' Φ) := by
  induction l with
  | nil =>
    constructor
    · iintro H; isplitr
      · unfold bsL; iempintro
      · iexact H
    · unfold bsL; iintro ⟨-, H⟩; iexact H
  | cons a l ih =>
    constructor
    · show iprop(Φ a ∗ bsL (l ++ l') Φ) ⊢ iprop((Φ a ∗ bsL l Φ) ∗ bsL l' Φ)
      iintro ⟨H, H'⟩
      ihave ⟨H1, H2⟩ := ih.1 $$ H'
      iframe
    · show iprop((Φ a ∗ bsL l Φ) ∗ bsL l' Φ) ⊢ iprop(Φ a ∗ bsL (l ++ l') Φ)
      iintro ⟨⟨H, H1⟩, H2⟩
      iframe H
      iapply ih.2; iframe H1 H2

theorem bsL_bigSep [DecidableEq α] (Φ : α → sProp 𝕄) (l : List α) (h : l.Nodup) : bsL l Φ = bigSep l.toFinset Φ := by
  induction l with
  | nil => rfl
  | cons a l ih =>
    rw [List.toFinset_cons, BI.bigSep_insert (by rw [List.mem_toFinset]; exact (List.nodup_cons.mp h).1), ← ih (List.nodup_cons.mp h).2]
    rfl

theorem bsL_map {β : Type} (g : β → α) (Φ : α → sProp 𝕄) (l : List β) : bsL (l.map g) Φ = bsL l fun b => Φ (g b) := by
  induction l with
  | nil => rfl
  | cons a l ih => show iprop(Φ (g a) ∗ bsL (l.map g) Φ) = iprop(Φ (g a) ∗ bsL l fun b => Φ (g b)); rw [ih]
end

theorem all15_bigSep (Φ : Fin 15 → sProp 𝕄) : bsL all15 Φ = bigSep Finset.univ Φ :=
  (bsL_bigSep Φ all15 (by decide)).trans (congrArg (fun S => bigSep S Φ) (by decide))

theorem peers_set : ∀ c : Dev nD, (all15.map (pr c)).toFinset = Finset.univ.erase c := by decide
theorem peers_nodup : ∀ c : Dev nD, (all15.map (pr c)).Nodup := by decide
/-- Over the peers of a device. -/
theorem peers_bigSep (c : Dev nD) (Φ : Dev nD → sProp 𝕄) : bigSep (Finset.univ.erase c) Φ = bsL all15 fun r => Φ (pr c r) := by
  rw [← bsL_map (pr c) Φ, bsL_bigSep Φ _ (peers_nodup c), peers_set c]
/-- Over all devices: the device itself and its peers. -/
theorem devs_bigSep (c : Dev nD) (Φ : Dev nD → sProp 𝕄) : bigSep Finset.univ Φ = iprop(Φ c ∗ bsL all15 fun r => Φ (pr c r)) := by
  rw [BI.bigSep_erase (Finset.mem_univ c), peers_bigSep]
  rfl

variable (m : (ℓ : Loc nD τ sig) → Buf (Elt F) ℓ)

/-! ## Loops -/

/-- A loop that pays a debt at each step. -/
theorem wp_loop_pay (c : Dev nD) {α : Type} (f : α → KP F PUnit) (due : α → Due) (Φ Ψ : α → sProp 𝕄) (rest : List Due)
    (h : ∀ a l, iprop(recs m ∗ ow c (due a :: l) ∗ Φ a) ⊢ wpk c (f a) fun _ => iprop(ow c l ∗ Ψ a)) (l : List α) :
    iprop(recs m ∗ ow c (l.map due ++ rest) ∗ bsL l Φ) ⊢ wpk c (seqL l f) fun _ => iprop(ow c rest ∗ bsL l Ψ) := by
  induction l with
  | nil =>
    unfold seqL bsL
    rw [wpk, wp_ret]
    iintro ⟨-, HO, -⟩
    imodintro
    isplitl [HO]
    · iexact HO
    · iempintro
  | cons a l ih =>
    unfold seqL
    rw [wpk, wp_bind]
    iintro ⟨#HR, HO, HP⟩
    ihave HP' := (show bsL (a :: l) Φ ⊢ iprop(Φ a ∗ bsL l Φ) from BI.Entails.refl _) $$ HP
    icases HP' with ⟨Ha, Hl⟩
    iapply (wpk_use (h a (l.map due ++ rest)) _) $$ [HO Ha]
    · iframe Ha
      isplitr; · iexact HR
      iexact HO
    iintro %_ ⟨HO, Ha⟩
    iapply (wpk_use ih _) $$ [HO Hl]
    · iframe HO Hl; iexact HR
    iintro %_ ⟨HO, Hl⟩
    iframe HO
    iapply (show iprop(Ψ a ∗ bsL l Ψ) ⊢ bsL (a :: l) Ψ from BI.Entails.refl _)
    iframe

/-- A loop that leaves the debts as they are. -/
theorem wp_loop (c : Dev nD) {α : Type} (f : α → KP F PUnit) (Φ Ψ : α → sProp 𝕄) (rest : List Due)
    (h : ∀ a, iprop(recs m ∗ ow c rest ∗ Φ a) ⊢ wpk c (f a) fun _ => iprop(ow c rest ∗ Ψ a)) (l : List α) :
    iprop(recs m ∗ ow c rest ∗ bsL l Φ) ⊢ wpk c (seqL l f) fun _ => iprop(ow c rest ∗ bsL l Ψ) := by
  induction l with
  | nil =>
    unfold seqL bsL
    rw [wpk, wp_ret]
    iintro ⟨-, HO, -⟩
    imodintro
    isplitl [HO]
    · iexact HO
    · iempintro
  | cons a l ih =>
    unfold seqL
    rw [wpk, wp_bind]
    iintro ⟨#HR, HO, HP⟩
    ihave HP' := (show bsL (a :: l) Φ ⊢ iprop(Φ a ∗ bsL l Φ) from BI.Entails.refl _) $$ HP
    icases HP' with ⟨Ha, Hl⟩
    iapply (wpk_use (h a) _) $$ [HO Ha]
    · iframe HO Ha; iexact HR
    iintro %_ ⟨HO, Ha⟩
    iapply (wpk_use ih _) $$ [HO Hl]
    · iframe HO Hl; iexact HR
    iintro %_ ⟨HO, Hl⟩
    iframe HO
    iapply (show iprop(Ψ a ∗ bsL l Ψ) ⊢ bsL (a :: l) Ψ from BI.Entails.refl _)
    iframe

/-! ## Consecutive slots -/

/-- The list's peers are `a`, `a + 1`, … up to before `b`. -/
def Consec : ℕ → List (Fin 15) → ℕ → Prop
  | a, [], b => a = b
  | a, r :: l, b => r.val = a ∧ Consec (a + 1) l b

theorem Consec.le {a b : ℕ} {l : List (Fin 15)} (h : Consec a l b) : a ≤ b := by
  induction l generalizing a with
  | nil => exact le_of_eq h
  | cons r l ih => exact le_trans (Nat.le_succ a) (ih h.2)

/-- A range of rows that can be cut anywhere. -/
structure Cuts (P : ℕ → ℕ → sProp 𝕄) : Prop where
  nil : ∀ a, P a a ⊣⊢ iprop(emp)
  cut : ∀ a b d, a ≤ b → b ≤ d → (P a d ⊣⊢ iprop(P a b ∗ P b d))

theorem bsL_consec {P : ℕ → ℕ → sProp 𝕄} (hP : Cuts P) {a b : ℕ} {l : List (Fin 15)} (h : Consec a l b) :
    (bsL l fun r => P (64 * (r.val + 1)) (64 * (r.val + 1) + 64)) ⊣⊢ P (64 * (a + 1)) (64 * (b + 1)) := by
  induction l generalizing a with
  | nil =>
    have h' : a = b := h
    subst h'
    exact ⟨(hP.nil _).2, (hP.nil _).1⟩
  | cons r l ih =>
    obtain ⟨rfl, h⟩ := h
    have hle := h.le
    constructor
    · show iprop(P (64 * (r.val + 1)) (64 * (r.val + 1) + 64) ∗ bsL l _) ⊢ _
      exact (sep_mono_right (ih h).1).trans (hP.cut (64 * (r.val + 1)) (64 * (r.val + 1) + 64) (64 * (b + 1)) (by omega) (by omega)).2
    · show _ ⊢ iprop(P (64 * (r.val + 1)) (64 * (r.val + 1) + 64) ∗ bsL l _)
      exact (hP.cut (64 * (r.val + 1)) (64 * (r.val + 1) + 64) (64 * (b + 1)) (by omega) (by omega)).1.trans (sep_mono_right (ih h).2)

theorem rows_nil (a : ℕ) : rows a a = ∅ := by
  ext x; rw [mem_rows]; constructor
  · intro h; omega
  · intro h; exact absurd h (Finset.notMem_empty _)

theorem cuts_of {ℓ : Loc nD τ sig} (f : Buf (Elt F) ℓ) (K : ℕ → ℕ → Finset (Idx ℓ)) (h0 : ∀ a, K a a = ∅) (hd : ∀ a b d, Disjoint (K a b) (K b d))
    (hu : ∀ a b d, a ≤ b → b ≤ d → K a b ∪ K b d = K a d) : Cuts fun a b => (ℓ ↦[K a b]{fullShare} f : sProp 𝕄) where
  nil a := by
    show (ℓ ↦[K a a]{fullShare} f : sProp 𝕄) ⊣⊢ _
    rw [h0, pointsTo_empty]
  cut a b d h h' := by
    show (ℓ ↦[K a d]{fullShare} f : sProp 𝕄) ⊣⊢ _
    rw [← hu a b d h h']; exact pointsTo_union (hd a b d)

theorem cuts_xg (c : Dev nD) (f : Vec F S1024x512 .bf16) : Cuts fun a b => xgP c a b f := cuts_of (ℓ := (c : Thread nD τ).loc cc0_scratch0) f rows rows_nil rows_disj rows_union
theorem cuts_pt (c : Dev nD) (f : Vec F S1024x512 .bf16) : Cuts fun a b => ptP c a b f := cuts_of (ℓ := (c : Thread nD τ).loc cc0_scratch1) f rows rows_nil rows_disj rows_union

/-- All sixteen blocks of results are the whole buffer. -/
theorem rs_whole (c : Dev nD) (f : Vec F S16x64x512 .bf16) : wholeAt c cc0_scratch2 f = iprop(rsS c c.val f ∗ bsL all15 fun r => rsS c (pr c r).val f) := by
  rw [← devs_bigSep c fun d => rsS c d.val f]
  refine Eq.trans ?_ (pointsTo_biUnion (ℓ := (c : Thread nD τ).loc cc0_scratch2) (q := fullShare) (f := f) (Finset.univ : Finset (Dev nD)) (fun d => blk d.val)
    fun t _ t' _ h => blk_disj _ _ fun e => h (Fin.ext e))
  have h : (Finset.univ : Finset (Dev nD)).biUnion (fun d => blk d.val) = Finset.univ := by
    ext x
    refine ⟨fun _ => Finset.mem_univ _, fun _ => Finset.mem_biUnion.mpr ⟨⟨(x 0).val, (x 0).isLt⟩, Finset.mem_univ _, mem_blk.mpr rfl⟩⟩
  exact congrArg (fun S => (((c : Thread nD τ).loc cc0_scratch2) ↦[S]{fullShare} f : sProp 𝕄)) h.symm

/-- Slot 0 in the fifteen shares the sends read through and a remainder. -/
theorem xg_shares (c : Dev nD) (f : Vec F S1024x512 .bf16) : xgP c 0 64 f ⊣⊢ iprop(xgR c f ∗ bsL all15 fun r => xgT c r.val f) := by
  rw [all15_bigSep]
  exact Transfers.pointsTo_toks fullShare 15

end Cert.KernelIdeal.Mlp
-- ==== Proof.Ideal.Layer.lean ====
/- One layer on one device. -/
module

public import proofs.«01_k».proof.Proof.Ideal.Lists

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## A group of peers -/

/-- What a group's peer brings, and what it leaves. -/
def GIN (k : ℕ) (c : Dev nD) (r : Fin 15) : sProp 𝕄 := iprop((CG k c r ∗ PG k c r ∗ HAVE k c r) ∗ TS k c r ∗ PSD k c r)
def GOUT (k : ℕ) (c : Dev nD) (r : Fin 15) : sProp 𝕄 := iprop(PG (k + 1) c r ∗ PSD k c r ∗ CSD c r ∗ LEFT k c r)

theorem gin_open (k : ℕ) (c : Dev nD) (l : List (Fin 15)) :
    (bsL l (GIN k c) : sProp 𝕄) ⊢ iprop((bsL l fun r => iprop(CG k c r ∗ PG k c r ∗ HAVE k c r)) ∗ bsL l fun r => iprop(TS k c r ∗ PSD k c r)) :=
  bsL_unzip _ _ l
theorem gout_open (k : ℕ) (c : Dev nD) (l : List (Fin 15)) :
    (bsL l (GOUT k c) : sProp 𝕄) ⊢ iprop(bsL l (PG (k + 1) c) ∗ bsL l fun r => iprop(PSD k c r ∗ CSD c r ∗ LEFT k c r)) :=
  bsL_unzip _ _ l

theorem wp_grp (k : ℕ) (hk : k < 3) (c : Dev nD) (wi : Memref sig .tc .vmem S512x1024 .f32) (wo : Memref sig .tc .vmem S1024x512 .f32) (Swi Swo : sProp 𝕄)
    (hwi : Swi ⊢ wpk c (ldWi wi) fun v => iprop(⌜v = WI m k c⌝ ∗ Swi)) (hwo : Swo ⊢ wpk c (ldWo wo) fun v => iprop(⌜v = WO m k c⌝ ∗ Swo))
    {o n : ℕ} {hi : ∀ a, (![o, 0] : Fin 2 → ℕ) a + (![n, 512] : Fin 2 → ℕ) a ≤ S1024x512.size a}
    {pay : Vec F ⟨2, ![n, 512]⟩ .bf16 → Vec F S512x1024 .f32 → Vec F S1024x512 .f32 → FVec F ⟨2, ![n, 512]⟩ .bf16} (hg : IsGrp o n hi pay)
    (hs : 0 < (⟨2, ![n, 512]⟩ : Shape).numel) (hr : (Rect.unit (s := S1024x512) ![o, 0] ![n, 512] hi).PackedRows (EltTy.packing .bf16))
    (l : List (Fin 15)) (a b : ℕ) (hl : Consec a l b) (hoa : 64 * (a + 1) = o) (hob : 64 * (b + 1) = o + n) (rest : List Due) (hrest : Above (2 + 2 * k) rest) :
    iprop(recs m ∗ ow c (l.map (rsDue k c) ++ rest) ∗ (∃ f, ptP c o (o + n) f) ∗ Swi ∗ Swo ∗ bsL l (GIN k c))
      ⊢ wpk c (grp xgM (Memref.isWhole_whole _) partM (Memref.isWhole_whole _) rsM (Memref.isWhole_whole _) cc0_scratch3 cc0_scratch4 cc0_scratch6 c l
          (comp wi wo xgM partM (Memref.isWhole_whole _) o n hi hs hr pay))
        fun _ => iprop(ow c rest ∗ Swi ∗ Swo ∗ bsL l (GOUT k c)) := by
  unfold grp
  rw [wpk, wp_bind]
  iintro ⟨#HR, HO, Hpt, Hi, Ho, HG⟩
  ihave ⟨HA, HB⟩ := (gin_open (F := F) k c l) $$ HG
  iapply (wpk_use (wp_loop m c (agWait xgM (Memref.isWhole_whole _) cc0_scratch3 c) (fun r => iprop(CG k c r ∗ PG k c r ∗ HAVE k c r))
    (fun r => iprop(PG (k + 1) c r ∗ xgS c (r.val + 1) (XG m k c) ∗ INN k c r)) (l.map (rsDue k c) ++ rest)
    (fun r => wp_agWait m k hk c r _ ((above_rs hk (by omega) c l).append hrest)) l) _) $$ [HO HA]
  · iframe HO HA; iexact HR
  iintro %_ ⟨HO, HA⟩
  ihave ⟨HPG, HA⟩ := (bsL_unzip _ _ l) $$ HA
  ihave ⟨HX, HI⟩ := (bsL_unzip _ _ l) $$ HA
  ihave HX := (bsL_consec (cuts_xg c (XG m k c)) hl).1 $$ HX
  rw [hoa, hob, wp_bind]
  iapply (wpk_use (wp_comp m k c wi wo Swi Swo hwi hwo fullShare hg hs hr) _) $$ [HX Hpt Hi Ho]
  · iframe Hpt Hi Ho; unfold xgP; iexact HX
  iintro %_ ⟨HX, Hpt, Hi, Ho⟩
  ihave HX := (show iprop(((c : Thread nD τ).loc cc0_scratch0) ↦[rows o (o + n)]{fullShare} XG m k c) ⊢ xgP c (64 * (a + 1)) (64 * (b + 1)) (XG m k c) from by rw [hoa, hob]; exact BI.Entails.refl _) $$ HX
  ihave Hpt := (show ptP c o (o + n) (PART m k c) ⊢ ptP c (64 * (a + 1)) (64 * (b + 1)) (PART m k c) from by rw [hoa, hob]) $$ Hpt
  ihave HX := (bsL_consec (cuts_xg c (XG m k c)) hl).2 $$ HX
  ihave HP := (bsL_consec (cuts_pt c (PART m k c)) hl).2 $$ Hpt
  ihave H1 := (bsL_zip _ _ l) $$ [HB HPG]
  · iframe HB HPG
  ihave H2 := (bsL_zip _ _ l) $$ [HI H1]
  · iframe HI H1
  ihave H3 := (bsL_zip _ _ l) $$ [HP H2]
  · iframe HP H2
  ihave H4 := (bsL_zip _ _ l) $$ [HX H3]
  · iframe HX H3
  iapply (wpk_use (wp_loop_pay m c (rsSend partM (Memref.isWhole_whole _) rsM (Memref.isWhole_whole _) cc0_scratch4 cc0_scratch6 c) (rsDue k c) _
    (GOUT k c) rest (fun r l' => ?_) l) _) $$ [HO H4]
  rotate_left
  · iframe HO H4; iexact HR
  · iintro %_ ⟨HO, HG⟩
    iframe
  · unfold GOUT
    refine BIBase.Entails.trans ?_ (wp_rsSend m k hk c r l')
    iintro ⟨#HR, HO, Hx, Hp, HI, ⟨HT, HD⟩, HG⟩
    iframe HO Hx Hp HI HT HD HG
    iexact HR

/-! ## The whole layer -/

abbrev g0 : List (Fin 15) := [0, 1, 2, 3]
abbrev g1 : List (Fin 15) := [4, 5, 6, 7]
abbrev g2 : List (Fin 15) := [8, 9, 10, 11]
abbrev g3 : List (Fin 15) := [12, 13]
abbrev g4 : List (Fin 15) := [14]

theorem groups (Φ : Fin 15 → sProp 𝕄) : bsL all15 Φ ⊣⊢ iprop(bsL g0 Φ ∗ bsL g1 Φ ∗ bsL g2 Φ ∗ bsL g3 Φ ∗ bsL g4 Φ) := by
  have e1 := bsL_append Φ g3 g4
  have e2 := bsL_append Φ g2 (g3 ++ g4)
  have e3 := bsL_append Φ g1 (g2 ++ (g3 ++ g4))
  have e4 := bsL_append Φ g0 (g1 ++ (g2 ++ (g3 ++ g4)))
  constructor
  · exact e4.1.trans (sep_mono_right (e3.1.trans (sep_mono_right (e2.1.trans (sep_mono_right e1.1)))))
  · exact BI.Entails.trans (sep_mono_right ((sep_mono_right ((sep_mono_right e1.2).trans e2.2)).trans e3.2)) e4.2

theorem pt_ranges (c : Dev nD) (f : Vec F S1024x512 .bf16) :
    ptP c 0 1024 f ⊢ iprop(ptP c 0 64 f ∗ ptP c 64 (64 + 256) f ∗ ptP c 320 (320 + 256) f ∗ ptP c 576 (576 + 256) f ∗ ptP c 832 (832 + 128) f ∗ ptP c 960 (960 + 64) f) :=
  ((cuts_pt c f).cut 0 64 1024 (by omega) (by omega)).1.trans <| sep_mono_right <|
  ((cuts_pt c f).cut 64 320 1024 (by omega) (by omega)).1.trans <| sep_mono_right <|
  ((cuts_pt c f).cut 320 576 1024 (by omega) (by omega)).1.trans <| sep_mono_right <|
  ((cuts_pt c f).cut 576 832 1024 (by omega) (by omega)).1.trans <| sep_mono_right <|
  ((cuts_pt c f).cut 832 960 1024 (by omega) (by omega)).1

/-- A device before layer `k`: its input in slot 0, and what it has towards each peer. -/
def LAY (k : ℕ) (c : Dev nD) : sProp 𝕄 :=
  iprop(xgP c 0 64 (XG m k c) ∗ (∃ f, ptP c 0 1024 f) ∗ (∃ f, rsS c c.val f)
    ∗ bsL all15 (SLOT k c) ∗ bsL all15 (MINE k c) ∗ bsL all15 (PG k c) ∗ bsL all15 (PS k c) ∗ bsL all15 (PGD k c) ∗ bsL all15 (PSD k c))
/-- What a layer uses up. -/
def USE (k : ℕ) (c : Dev nD) : sProp 𝕄 :=
  iprop(bsL all15 (TG k c) ∗ bsL all15 (TS k c) ∗ bsL all15 (CG k c) ∗ bsL all15 (CS k c))
/-- A device after layer `k`. -/
def DONE (k : ℕ) (c : Dev nD) : sProp 𝕄 :=
  iprop((∃ f, xgP c 0 64 f) ∗ (∃ f, ptP c 0 1024 f) ∗ (∃ f, rsS c c.val f)
    ∗ bsL all15 (SLOT (k + 1) c) ∗ bsL all15 (MINE (k + 1) c) ∗ bsL all15 (PG (k + 1) c) ∗ bsL all15 (PS (k + 1) c) ∗ bsL all15 (PGD (k + 1) c) ∗ bsL all15 (PSD (k + 1) c))

/-- The slot for the next layer, from what stayed and what came. -/
theorem slot_next (k : ℕ) (hk : k < 3) (c : Dev nD) (r : Fin 15) : iprop(LEFT k c r ∗ rsX k c (pr c r)) ⊢ (SLOT (k + 1) c r : sProp 𝕄) := by
  unfold LEFT rsX SLOT
  by_cases h : k < 2
  · rw [if_pos h, if_pos h, if_pos (by omega), slotOf_back]
    iintro ⟨-, H⟩; iexact H
  · rw [if_neg h, if_neg h, if_neg (by omega)]
    iintro ⟨H, -⟩; iexact H

theorem consec_all : Consec 0 all15 15 := ⟨rfl, rfl, rfl, rfl, rfl, rfl, rfl, rfl, rfl, rfl, rfl, rfl, rfl, rfl, rfl, rfl⟩

set_option maxHeartbeats 1000000 in
theorem wp_layer (k : ℕ) (hk : k < 3) (c : Dev nD) (wi : Memref sig .tc .vmem S512x1024 .f32) (wo : Memref sig .tc .vmem S1024x512 .f32) (Swi Swo : sProp 𝕄)
    (hwi : Swi ⊢ wpk c (ldWi wi) fun v => iprop(⌜v = WI m k c⌝ ∗ Swi)) (hwo : Swo ⊢ wpk c (ldWo wo) fun v => iprop(⌜v = WO m k c⌝ ∗ Swo))
    (rest : List Due) (hrest : Above (3 + 2 * k) rest) :
    iprop(recs m ∗ ow c (layDue k c rest) ∗ Swi ∗ Swo ∗ bsL all15 (HAVE k c) ∗ USE k c ∗ LAY m k c)
      ⊢ wpk c (layer wi wo xgM (Memref.isWhole_whole _) partM (Memref.isWhole_whole _) rsM (Memref.isWhole_whole _) cc0_scratch3 cc0_scratch4 cc0_scratch5 cc0_scratch6 c)
        fun v => iprop(⌜v = RS m k c⌝ ∗ ow c rest ∗ Swi ∗ Swo ∗ DONE k c) := by
  unfold layer USE LAY DONE layDue
  rw [wpk, wp_bind]
  iintro ⟨#HR, HO, Hi, Ho, HH, ⟨HTG, HTS, HCG, HCS⟩, ⟨Hx, ⟨%fp, Hp⟩, Hrs, HSL, HMI, HPG, HPS, HPGD, HPSD⟩⟩
  ihave ⟨HxR, HxT⟩ := (xg_shares c (XG m k c)).1 $$ Hx
  -- the sends of the layer's input
  ihave H1 := (bsL_zip _ _ all15) $$ [HTG HPGD]
  · iframe HTG HPGD
  ihave H2 := (bsL_zip _ _ all15) $$ [HMI H1]
  · iframe HMI H1
  ihave H3 := (bsL_zip _ _ all15) $$ [HSL H2]
  · iframe HSL H2
  ihave H4 := (bsL_zip _ _ all15) $$ [HxT H3]
  · iframe HxT H3
  iapply (wpk_use (wp_loop_pay m c (agSend xgM (Memref.isWhole_whole _) cc0_scratch3 cc0_scratch5 c) (agDue k c) _ (fun r => iprop(PGD k c r ∗ CGD c r)) (all15.map (rsDue k c) ++ rest)
    (fun r l' => wp_agSend m k hk c r l') all15) _) $$ [HO H4]
  · iframe HO H4; iexact HR
  iintro %_ ⟨HO, HD⟩
  -- the own block
  ihave ⟨Hp0, Hp1, Hp2, Hp3, Hp4, Hp5⟩ := (pt_ranges c fp) $$ Hp
  rw [wp_bind]
  iapply (wpk_use (wp_comp m k c wi wo Swi Swo hwi hwo (Transfers.shareDrop fullShare 15) isGrp0 h_S64x512 packedbf16_S1024x512_S64x512_0_0) _) $$ [HxR Hp0 Hi Ho]
  · iframe Hi Ho
    isplitl [HxR]; · unfold xgR; iexact HxR
    iexists fp; iexact Hp0
  iintro %_ ⟨HxR, Hp0, Hi, Ho⟩
  rw [wp_bind]
  iapply (wpk_use (wp_own m k c) _) $$ [Hp0 Hrs]
  · iframe Hrs; iexact Hp0
  iintro %_ ⟨Hp0, Hrs⟩
  -- the groups
  ihave H1 := (bsL_zip _ _ all15) $$ [HPG HH]
  · iframe HPG HH
  ihave H2 := (bsL_zip _ _ all15) $$ [HCG H1]
  · iframe HCG H1
  ihave H3 := (bsL_zip _ _ all15) $$ [HTS HPSD]
  · iframe HTS HPSD
  ihave H4 := (bsL_zip _ _ all15) $$ [H2 H3]
  · iframe H2 H3
  ihave ⟨HG0, HG1, HG2, HG3, HG4⟩ := (groups (GIN k c)).1 $$ [H4]
  · iexact H4
  have ar : ∀ l : List (Fin 15), Above (2 + 2 * k) (l.map (rsDue k c)) := fun l => above_rs hk (by omega) c l
  have hrest' : Above (2 + 2 * k) rest := hrest.mono (by omega)
  rw [wp_bind]
  iapply (wpk_use (wp_grp m k hk c wi wo Swi Swo hwi hwo isGrp1 h_S256x512 packedbf16_S1024x512_S256x512_64_0 g0 0 4 ⟨rfl, rfl, rfl, rfl, rfl⟩ rfl rfl
    (g1.map (rsDue k c) ++ (g2.map (rsDue k c) ++ (g3.map (rsDue k c) ++ (g4.map (rsDue k c) ++ rest))))
    ((ar g1).append ((ar g2).append ((ar g3).append ((ar g4).append hrest'))))) _) $$ [HO Hp1 Hi Ho HG0]
  · iframe Hi Ho HG0
    isplitr; · iexact HR
    isplitl [HO]; · iexact HO
    iexists fp; iexact Hp1
  iintro %_ ⟨HO, Hi, Ho, HG0⟩
  rw [wp_bind]
  iapply (wpk_use (wp_grp m k hk c wi wo Swi Swo hwi hwo isGrp2 h_S256x512 packedbf16_S1024x512_S256x512_320_0 g1 4 8 ⟨rfl, rfl, rfl, rfl, rfl⟩ rfl rfl
    (g2.map (rsDue k c) ++ (g3.map (rsDue k c) ++ (g4.map (rsDue k c) ++ rest)))
    ((ar g2).append ((ar g3).append ((ar g4).append hrest')))) _) $$ [HO Hp2 Hi Ho HG1]
  · iframe HO Hi Ho HG1
    isplitr; · iexact HR
    iexists fp; iexact Hp2
  iintro %_ ⟨HO, Hi, Ho, HG1⟩
  rw [wp_bind]
  iapply (wpk_use (wp_grp m k hk c wi wo Swi Swo hwi hwo isGrp3 h_S256x512 packedbf16_S1024x512_S256x512_576_0 g2 8 12 ⟨rfl, rfl, rfl, rfl, rfl⟩ rfl rfl
    (g3.map (rsDue k c) ++ (g4.map (rsDue k c) ++ rest))
    ((ar g3).append ((ar g4).append hrest'))) _) $$ [HO Hp3 Hi Ho HG2]
  · iframe HO Hi Ho HG2
    isplitr; · iexact HR
    iexists fp; iexact Hp3
  iintro %_ ⟨HO, Hi, Ho, HG2⟩
  rw [wp_bind]
  iapply (wpk_use (wp_grp m k hk c wi wo Swi Swo hwi hwo isGrp4 h_S128x512 packedbf16_S1024x512_S128x512_832_0 g3 12 14 ⟨rfl, rfl, rfl⟩ rfl rfl
    (g4.map (rsDue k c) ++ rest) ((ar g4).append hrest')) _) $$ [HO Hp4 Hi Ho HG3]
  · iframe HO Hi Ho HG3
    isplitr; · iexact HR
    iexists fp; iexact Hp4
  iintro %_ ⟨HO, Hi, Ho, HG3⟩
  rw [wp_bind]
  iapply (wpk_use (wp_grp m k hk c wi wo Swi Swo hwi hwo isGrp5 h_S64x512 packedbf16_S1024x512_S64x512_960_0 g4 14 15 ⟨rfl, rfl⟩ rfl rfl
    rest hrest') _) $$ [HO Hp5 Hi Ho HG4]
  · iframe HO Hi Ho HG4
    isplitr; · iexact HR
    iexists fp; iexact Hp5
  iintro %_ ⟨HO, Hi, Ho, HG4⟩
  ihave HG := (groups (GOUT k c)).2 $$ [HG0 HG1 HG2 HG3 HG4]
  · iframe HG0 HG1 HG2 HG3 HG4
  ihave ⟨HPG, HG⟩ := (gout_open (F := F) k c all15) $$ HG
  ihave ⟨HPSD, HG⟩ := (bsL_unzip _ _ all15) $$ HG
  ihave ⟨HCSD, HLE⟩ := (bsL_unzip _ _ all15) $$ HG
  -- the peers' results
  ihave H1 := (bsL_zip _ _ all15) $$ [HCS HPS]
  · iframe HCS HPS
  rw [wp_bind]
  iapply (wpk_use (wp_loop m c (rsWait partM (Memref.isWhole_whole _) rsM (Memref.isWhole_whole _) cc0_scratch4 c) (fun r => iprop(CS k c r ∗ PS k c r))
    (fun r => iprop(PS (k + 1) c r ∗ reached ER (rsCell c (pr c r)) (k + 1) ∗ rsS c (pr c r).val (RS m k c) ∗ rsX k c (pr c r))) rest
    (fun r => wp_rsWait m k hk c r rest hrest) all15) _) $$ [HO H1]
  · iframe HO H1; iexact HR
  iintro %_ ⟨HO, HG⟩
  ihave ⟨HPS, HG⟩ := (bsL_unzip _ _ all15) $$ HG
  ihave ⟨HRE, HG⟩ := (bsL_unzip _ _ all15) $$ HG
  ihave ⟨HRS, HRX⟩ := (bsL_unzip _ _ all15) $$ HG
  ihave HW := (Entails.of_eq (rs_whole c (RS m k c)).symm) $$ [Hrs HRS]
  · iframe Hrs HRS
  rw [wp_bind]
  iapply (wpk_use (wp_ldRs c (RS m k c)) _) $$ HW
  iintro %v ⟨%hv, HW⟩
  ihave ⟨Hrs, HRS⟩ := (Entails.of_eq (rs_whole c (RS m k c))) $$ HW
  -- the sends' ends
  have hrest0 : Above 0 rest := hrest.mono (by omega)
  ihave ⟨HPGD, HCGD⟩ := (bsL_unzip _ _ all15) $$ HD
  ihave H1 := (bsL_zip _ _ all15) $$ [HCGD HPGD]
  · iframe HCGD HPGD
  rw [wp_bind]
  iapply (wpk_use (wp_loop m c (agDone xgM (Memref.isWhole_whole _) cc0_scratch5) _ (fun r => iprop(PGD (k + 1) c r ∗ xgT c r.val (XG m k c))) rest
    (fun r => wp_agDone m k hk c r rest hrest0) all15) _) $$ [HO H1]
  · iframe HO H1; iexact HR
  iintro %_ ⟨HO, HG⟩
  ihave ⟨HPGD, HxT⟩ := (bsL_unzip _ _ all15) $$ HG
  ihave Hx := (xg_shares c (XG m k c)).2 $$ [HxR HxT]
  · iframe HxT; unfold xgR; iexact HxR
  ihave H1 := (bsL_zip _ _ all15) $$ [HCSD HPSD]
  · iframe HCSD HPSD
  rw [wp_bind]
  iapply (wpk_use (wp_loop m c (rsDone partM (Memref.isWhole_whole _) rsM (Memref.isWhole_whole _) cc0_scratch6 c) _
    (fun r => iprop(PSD (k + 1) c r ∗ ptS c (r.val + 1) (PART m k c))) rest
    (fun r => wp_rsDone m k hk c r rest hrest0) all15) _) $$ [HO H1]
  · iframe HO H1; iexact HR
  iintro %_ ⟨HO, HG⟩
  ihave ⟨HPSD, HPT⟩ := (bsL_unzip _ _ all15) $$ HG
  ihave HPT := (bsL_consec (cuts_pt c (PART m k c)) consec_all).1 $$ HPT
  ihave Hp := ((cuts_pt c (PART m k c)).cut 0 64 1024 (by omega) (by omega)).2 $$ [Hp0 HPT]
  · isplitl [Hp0]; · iexact Hp0
    iexact HPT
  ihave H1 := (bsL_zip _ _ all15) $$ [HLE HRX]
  · iframe HLE HRX
  ihave HSL := (bsL_mono (slot_next k hk c) all15) $$ H1
  ihave H2 := (bsL_zip _ _ all15) $$ [HRS HRE]
  · iframe HRS HRE
  ihave HMI := (bsL_mono (Ψ := MINE (k + 1) c) (fun r => by unfold MINE agX; iintro ⟨Ha, #Hb⟩; isplitl [Ha]; (iexists _; iexact Ha); iexact Hb) all15) $$ H2
  rw [show (pure v : KP F (Vec F S16x64x512 .bf16)) = Prog.ret v from rfl, wp_ret]; imodintro
  iframe HO Hi Ho HSL HMI HPG HPS HPGD HPSD
  isplitr; · ipureintro; exact hv
  isplitl [Hx]; · iexists _; iexact Hx
  isplitl [Hp]; · iexists _; iexact Hp
  iexists _; iexact Hrs

end Cert.KernelIdeal.Mlp
-- ==== Proof.Ideal.Cells.lean ====
/- A device's cells together: opened at the start, closed at the end; its buffers put together again. -/
module

public import proofs.«01_k».proof.Proof.Ideal.Layer

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The cells of a device, family by family -/

theorem opt_bigSep (Φ : Option (Fin 64) → sProp 𝕄) : bigSep Finset.univ Φ = iprop(Φ none ∗ bigSep Finset.univ fun j => Φ (some j)) := by
  rw [show (Finset.univ : Finset (Option (Fin 64))) = insert none (Finset.univ.map Function.Embedding.some) from by decide,
    BI.bigSep_insert (by decide), bigSep_map]
  rfl

theorem ix_set : (all15.map ix).toFinset = Finset.univ.erase 0 := by decide
/-- Over the sixteen indices: index 0, and one for each peer. -/
theorem ix_bigSep (Φ : Fin 16 → sProp 𝕄) : bigSep Finset.univ Φ = iprop(Φ 0 ∗ bsL all15 fun r => Φ (ix r)) := by
  rw [BI.bigSep_erase (Finset.mem_univ 0), ← bsL_map ix Φ, bsL_bigSep Φ _ (by decide), ix_set]
  rfl

theorem fam_ag : ∀ i : Fin 16, csem (some (finProdFinEquiv ((0 : Fin 4), i))) = .dma (agQ i) := by decide
theorem fam_rs : ∀ i : Fin 16, csem (some (finProdFinEquiv ((1 : Fin 4), i))) = .dma (rsQ i) := by decide
theorem fam_agd : ∀ i : Fin 16, csem (some (finProdFinEquiv ((2 : Fin 4), i))) = .dma (agdQ i) := by decide
theorem fam_rsd : ∀ i : Fin 16, csem (some (finProdFinEquiv ((3 : Fin 4), i))) = .dma (rsdQ i) := by decide

/-- The cells: the barrier's; of each of the four families the one of the device's own, and one for each peer. -/
theorem cells_split (c : Dev nD) (Ψ : SemLoc sig → sProp 𝕄) :
    (bigSep Finset.univ fun o : Option (Fin 64) => Ψ (csem o)) = iprop(Ψ (.reg barSem)
      ∗ (Ψ (.dma (agQ c)) ∗ bsL all15 fun r => Ψ (.dma (agQ (pr c r))))
      ∗ (Ψ (.dma (rsQ c)) ∗ bsL all15 fun r => Ψ (.dma (rsQ (pr c r))))
      ∗ (Ψ (.dma (agdQ 0)) ∗ bsL all15 fun r => Ψ (.dma (agdQ (ix r))))
      ∗ (Ψ (.dma (rsdQ 0)) ∗ bsL all15 fun r => Ψ (.dma (rsdQ (ix r))))) := by
  rw [opt_bigSep, bigSep_univ_equiv (finProdFinEquiv : Fin 4 × Fin 16 ≃ Fin 64), bigSep_univ_prod,
    bigSep_univ_eq_bigSepL [0, 1, 2, 3] (by decide) (by decide)]
  have e0 : (bigSep Finset.univ fun i : Fin 16 => Ψ (csem (some (finProdFinEquiv ((0 : Fin 4), i))))) = _ :=
    (congrArg (bigSep Finset.univ) (funext fun i => congrArg Ψ (fam_ag i))).trans (devs_bigSep c fun i => Ψ (.dma (agQ i)))
  have e1 : (bigSep Finset.univ fun i : Fin 16 => Ψ (csem (some (finProdFinEquiv ((1 : Fin 4), i))))) = _ :=
    (congrArg (bigSep Finset.univ) (funext fun i => congrArg Ψ (fam_rs i))).trans (devs_bigSep c fun i => Ψ (.dma (rsQ i)))
  have e2 : (bigSep Finset.univ fun i : Fin 16 => Ψ (csem (some (finProdFinEquiv ((2 : Fin 4), i))))) = _ :=
    (congrArg (bigSep Finset.univ) (funext fun i => congrArg Ψ (fam_agd i))).trans (ix_bigSep fun i => Ψ (.dma (agdQ i)))
  have e3 : (bigSep Finset.univ fun i : Fin 16 => Ψ (csem (some (finProdFinEquiv ((3 : Fin 4), i))))) = _ :=
    (congrArg (bigSep Finset.univ) (funext fun i => congrArg Ψ (fam_rsd i))).trans (ix_bigSep fun i => Ψ (.dma (rsdQ i)))
  rw [← e0, ← e1, ← e2, ← e3]
  rfl

/-! ## Opening and closing -/

/-- Along a list, with what every device knows. -/
theorem bsL_know {α : Type} {Φ Ψ : α → sProp 𝕄} (h : ∀ a, iprop(recs m ∗ Φ a) ⊢ Ψ a) (l : List α) : iprop(recs m ∗ bsL l Φ) ⊢ bsL l Ψ := by
  induction l with
  | nil => unfold bsL; iintro -; iempintro
  | cons a l ih =>
    unfold bsL
    iintro ⟨#HR, Ha, Hl⟩
    isplitl [Ha]
    · iapply (h a); iframe Ha; iexact HR
    · iapply ih; iframe Hl; iexact HR

theorem bsL_emp {α : Type} (l : List α) : iprop(emp) ⊢ (bsL l fun _ => iprop(emp) : sProp 𝕄) := by
  induction l with
  | nil => exact BI.Entails.refl _
  | cons a l ih =>
    unfold bsL
    iintro -
    isplitr
    · iempintro
    · iapply ih; iempintro

theorem close_list {α : Type} {Φ Ψ : α → sProp 𝕄} (h : ∀ a, iprop(recs m ∗ Φ a) ⊢ |={Set.univ}=> Ψ a) (l : List α) :
    iprop(recs m ∗ bsL l Φ) ⊢ |={Set.univ}=> bsL l Ψ := by
  induction l with
  | nil => unfold bsL; iintro -; imodintro; iempintro
  | cons a l ih =>
    unfold bsL
    iintro ⟨#HR, Ha, Hl⟩
    imod (h a) $$ [Ha] with Ha
    · iframe Ha; iexact HR
    imod ih $$ [Hl] with Hl
    · iframe Hl; iexact HR
    imodintro
    iframe

theorem close_one (g : GSem nD τ sig) (R : ℕ) (hI : recs m ⊢ iprop((∃ κ : ℕ, cellInv ER (Rd m) κ g) ∗ reached ER g 0))
    (hR : ∀ r, R ≤ r → (Rd (F := F) m).duties g r = ∅) : iprop(recs m ∗ atPos ER g R ∅ 0) ⊢ |={Set.univ}=> (semVal g 0 : sProp 𝕄) := by
  iintro ⟨#HR, Hat⟩
  ihave ⟨⟨%κ, #I⟩, -⟩ := hI $$ HR
  iapply (Rounds.cell_close ER (Rd m) (Set.mem_univ κ) (fun h => h) (R := R) hR)
  iframe Hat; iexact I

/-- The positions of the cells that nothing pays. -/
def IDLE (c : Dev nD) : sProp 𝕄 :=
  iprop(atPos ER (agCell c c) 0 ∅ 0 ∗ atPos ER (rsCell c c) 0 ∅ 0 ∗ atPos ER (agdCell c 0) 0 ∅ 0 ∗ atPos ER (rsdCell c 0) 0 ∅ 0)

theorem open_all (c : Dev nD) :
    iprop(recs m ∗ bigSep Finset.univ fun o : Option (Fin 64) => atPos ER (kcell (c, o)) 0 ∅ 0)
      ⊢ iprop(atPos ER (barCell c) 0 ∅ 0 ∗ IDLE c ∗ bsL all15 (PG 0 c) ∗ bsL all15 (PS 0 c) ∗ bsL all15 (PGD 0 c) ∗ bsL all15 (PSD 0 c)) := by
  iintro ⟨#HR, H⟩
  ihave ⟨Hb, ⟨Ha, HA⟩, ⟨Hr, HS⟩, ⟨Had, HAD⟩, ⟨Hrd, HRD⟩⟩ := (Entails.of_eq (cells_split c fun sm => atPos ER ((c : Thread nD τ), sm) 0 ∅ 0)) $$ H
  unfold IDLE
  iframe Hb Ha Hr Had Hrd
  isplitl [HA]
  · iapply (bsL_know m (Φ := fun r => atPos ER (agCell c (pr c r)) 0 ∅ 0) (fun r => by
      unfold PG; iintro ⟨#HR, H⟩; ihave ⟨-, #H0⟩ := (recs_ag m c (pr c r)) $$ HR; iframe H; iexact H0) all15)
    isplitr; · iexact HR
    iexact HA
  isplitl [HS]
  · iexact HS
  isplitl [HAD]
  · iapply (bsL_know m (Φ := fun r => atPos ER (agdCell c (ix r)) 0 ∅ 0) (fun r => by
      unfold PGD; iintro ⟨#HR, H⟩; ihave ⟨-, #H0⟩ := (recs_agd m c (ix r)) $$ HR; iframe H; iexact H0) all15)
    isplitr; · iexact HR
    iexact HAD
  · iapply (bsL_know m (Φ := fun r => atPos ER (rsdCell c (ix r)) 0 ∅ 0) (fun r => by
      unfold PSD; iintro ⟨#HR, H⟩; ihave ⟨-, #H0⟩ := (recs_rsd m c (ix r)) $$ HR; iframe H; iexact H0) all15)
    isplitr; · iexact HR
    iexact HRD

theorem close_all (c : Dev nD) :
    iprop(recs m ∗ atPos ER (barCell c) 1 ∅ 0 ∗ IDLE c ∗ bsL all15 (PG 3 c) ∗ bsL all15 (PS 3 c) ∗ bsL all15 (PGD 3 c) ∗ bsL all15 (PSD 3 c))
      ⊢ |={Set.univ}=> (bigSep Finset.univ fun o : Option (Fin 64) => semVal (kcell (c, o)) 0 : sProp 𝕄) := by
  unfold IDLE
  iintro ⟨#HR, Hb, ⟨Ha, Hr, Had, Hrd⟩, HA, HS, HAD, HRD⟩
  imod (close_one m _ 1 (recs_bar m c) (duties_bar_later m c)) $$ [Hb] with Hb
  · iframe Hb; iexact HR
  imod (close_one m _ 0 (recs_ag m c c) (fun r _ => duties_ag_own m c r)) $$ [Ha] with Ha
  · iframe Ha; iexact HR
  imod (close_one m _ 0 (recs_rs m c c) (fun r _ => duties_rs_own m c r)) $$ [Hr] with Hr
  · iframe Hr; iexact HR
  imod (close_one m _ 0 (recs_agd m c 0) (fun r _ => duties_agd_own m c r)) $$ [Had] with Had
  · iframe Had; iexact HR
  imod (close_one m _ 0 (recs_rsd m c 0) (fun r _ => duties_rsd_own m c r)) $$ [Hrd] with Hrd
  · iframe Hrd; iexact HR
  imod (close_list m (Φ := PG 3 c) (Ψ := fun r => semVal (agCell c (pr c r)) 0) (fun r => by
    refine BIBase.Entails.trans ?_ (close_one m _ 3 (recs_ag m c (pr c r)) (duties_later m _))
    unfold PG; iintro ⟨HR, H, -⟩; iframe) all15) $$ [HA] with HA
  · iframe HA; iexact HR
  imod (close_list m (Φ := PS 3 c) (Ψ := fun r => semVal (rsCell c (pr c r)) 0) (fun r =>
    close_one m _ 3 (recs_rs m c (pr c r)) (duties_later m _)) all15) $$ [HS] with HS
  · iframe HS; iexact HR
  imod (close_list m (Φ := PGD 3 c) (Ψ := fun r => semVal (agdCell c (ix r)) 0) (fun r => by
    refine BIBase.Entails.trans ?_ (close_one m _ 3 (recs_agd m c (ix r)) (duties_later m _))
    unfold PGD; iintro ⟨HR, H, -⟩; iframe) all15) $$ [HAD] with HAD
  · iframe HAD; iexact HR
  imod (close_list m (Φ := PSD 3 c) (Ψ := fun r => semVal (rsdCell c (ix r)) 0) (fun r => by
    refine BIBase.Entails.trans ?_ (close_one m _ 3 (recs_rsd m c (ix r)) (duties_later m _))
    unfold PSD; iintro ⟨HR, H, -⟩; iframe) all15) $$ [HRD] with HRD
  · iframe HRD; iexact HR
  imodintro
  iapply (Entails.of_eq (cells_split c fun sm => (semVal ((c : Thread nD τ), sm) 0 : sProp 𝕄)).symm)
  iframe

/-! ## The buffers together again -/

/-- Two neighbouring ranges of rows at whatever contents. -/
theorem xg_join (c : Dev nD) (a b d : ℕ) (h : a ≤ b) (h' : b ≤ d) : iprop((∃ f, xgP c a b f) ∗ ∃ f, xgP c b d f) ⊢ (∃ f, xgP c a d f : sProp 𝕄) := by
  unfold xgP
  iintro ⟨⟨%f, H⟩, ⟨%g, H'⟩⟩
  iexists (fun i => if i ∈ rows a b then f i else g i)
  rw [← rows_union a b d h h']
  iapply (pointsTo_union (ℓ := (c : Thread nD τ).loc cc0_scratch0) (rows_disj a b d)).2
  isplitl [H]
  · iapply (xg_agree c (f := f) (fun i hi => (if_pos hi).symm)) $$ H
  · iapply (xg_agree c (f := g) (fun i hi => (if_neg fun hi' => Finset.disjoint_left.mp (rows_disj a b d) hi' hi).symm)) $$ H'

include m in
theorem xg_slots (c : Dev nD) {a b : ℕ} {l : List (Fin 15)} (h : Consec a l b) :
    (bsL l fun r => iprop(∃ f, xgS c (r.val + 1) f)) ⊢ (∃ f, xgP c (64 * (a + 1)) (64 * (b + 1)) f : sProp 𝕄) := by
  induction l generalizing a with
  | nil =>
    have h' : a = b := h
    subst h'
    iintro -
    iexists (XG m 0 c)
    iapply ((cuts_xg c (XG m 0 c)).nil _).2
    iempintro
  | cons r l ih =>
    obtain ⟨rfl, h⟩ := h
    have hle := h.le
    refine BIBase.Entails.trans ?_ (xg_join c _ (64 * (r.val + 1) + 64) _ (by omega) (by omega))
    exact sep_mono_right (ih h)

/-- The gathered input, whole. -/
theorem xg_whole (c : Dev nD) (f : Vec F S1024x512 .bf16) : wholeAt c cc0_scratch0 f = xgP c 0 1024 f :=
  congrArg (fun S => (((c : Thread nD τ).loc cc0_scratch0) ↦[S]{fullShare} f : sProp 𝕄)) rows_all.symm
theorem pt_whole (c : Dev nD) (f : Vec F S1024x512 .bf16) : wholeAt c cc0_scratch1 f = ptP c 0 1024 f :=
  congrArg (fun S => (((c : Thread nD τ).loc cc0_scratch1) ↦[S]{fullShare} f : sProp 𝕄)) rows_all.symm

theorem xg_cut (c : Dev nD) (f : Vec F S1024x512 .bf16) :
    wholeAt c cc0_scratch0 f ⊢ iprop((∃ f, xgP c 0 64 f) ∗ bsL all15 fun r => iprop(∃ f, xgS c (r.val + 1) f)) := by
  rw [xg_whole]
  refine (((cuts_xg c f).cut 0 64 1024 (by omega) (by omega)).1).trans (BIClass.sep_mono ?_ ?_)
  · iintro H; iexists f; iexact H
  · refine BIBase.Entails.trans (bsL_consec (cuts_xg c f) consec_all).2 (bsL_mono (fun r => ?_) all15)
    iintro H; iexists f; iexact H

include m in
theorem xg_uncut (c : Dev nD) :
    iprop((∃ f, xgP c 0 64 f) ∗ bsL all15 fun r => iprop(∃ f, xgS c (r.val + 1) f)) ⊢ (∃ f, wholeAt c cc0_scratch0 f : sProp 𝕄) := by
  refine (sep_mono_right (xg_slots m c consec_all)).trans ((xg_join c 0 64 1024 (by omega) (by omega)).trans ?_)
  iintro ⟨%f, H⟩
  iexists f
  iapply (Entails.of_eq (xg_whole c f).symm) $$ H

theorem rs_cut (c : Dev nD) (f : Vec F S16x64x512 .bf16) :
    wholeAt c cc0_scratch2 f ⊢ iprop((∃ f, rsS c c.val f) ∗ bsL all15 fun r => iprop(∃ f, rsS c (pr c r).val f)) := by
  rw [rs_whole]
  refine BIClass.sep_mono ?_ (bsL_mono (fun r => ?_) all15) <;> (iintro H; iexists f; iexact H)

include m in
theorem rs_uncut (c : Dev nD) :
    iprop((∃ f, rsS c c.val f) ∗ bsL all15 fun r => iprop(∃ f, rsS c (pr c r).val f)) ⊢ (∃ f, wholeAt c cc0_scratch2 f : sProp 𝕄) := by
  refine BIBase.Entails.trans (Entails.of_eq (devs_bigSep c fun d => iprop(∃ f, rsS (F := F) c d.val f)).symm) ?_
  haveI : Nonempty (Vec F S16x64x512 .bf16) := ⟨RS m 0 c⟩
  refine BIBase.Entails.trans (BI.bigSep_exists_pi (Y := fun _ => Vec F S16x64x512 .bf16) Finset.univ fun (d : Dev nD) f => rsS c d.val f) ?_
  iintro ⟨%f, H⟩
  iexists (fun x => f ⟨(x 0).val, (x 0).isLt⟩ x)
  rw [rs_whole]
  have hm : (bigSep Finset.univ fun d : Dev nD => rsS c d.val (f d) : sProp 𝕄) ⊢ bigSep Finset.univ fun d : Dev nD => rsS c d.val (fun x => f ⟨(x 0).val, (x 0).isLt⟩ x) :=
    bigSep_mono (fun (d : Dev nD) _ => rsb_agree c (S := blk d.val) (f := f d) (g := fun x => f ⟨(x 0).val, (x 0).isLt⟩ x) (fun x hx => by
      have e : (x 0).val = d.val := mem_blk.mp hx
      have e' : (⟨(x 0).val, (x 0).isLt⟩ : Dev nD) = d := Fin.ext e
      rw [e']))
  iapply (Entails.of_eq (devs_bigSep c fun d => rsS c d.val (fun x => f ⟨(x 0).val, (x 0).isLt⟩ x)))
  iapply hm
  iexact H

end Cert.KernelIdeal.Mlp
-- ==== Proof.Ideal.Whole.lean ====
/- The whole kernel on one device. -/
module

public import proofs.«01_k».proof.Proof.Ideal.Cells

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What a device holds at the kernel's start, besides what it knows, what it owes and the staged blocks. -/
def START (c : Dev nD) : sProp 𝕄 :=
  iprop((bsL all15 fun r => dutyTok ER (barCell (pr c r)) 0 c) ∗ cred (tallyAt (barCell c) 0 15)
    ∗ USE 0 c ∗ USE 1 c ∗ USE 2 c ∗ (bigSep Finset.univ fun o : Option (Fin 64) => atPos ER (kcell (c, o)) 0 ∅ 0))
/-- The three scratch buffers, whatever they hold. -/
def BUFS (c : Dev nD) : sProp 𝕄 :=
  iprop((∃ f, wholeAt c cc0_scratch0 f) ∗ (∃ f, wholeAt c cc0_scratch1 f) ∗ ∃ f, wholeAt c cc0_scratch2 f)
/-- The staged blocks: the inputs. -/
def STG (c : Dev nD) : sProp 𝕄 :=
  iprop(wholeAt c cc0_stg0_0 (xin m c) ∗ wholeAt c cc0_stg1_0 (wi0 m c) ∗ wholeAt c cc0_stg2_0 (wo0 m c) ∗ wholeAt c cc0_stg3_0 (wi1 m c)
    ∗ wholeAt c cc0_stg4_0 (wo1 m c) ∗ wholeAt c cc0_stg5_0 (wi2 m c) ∗ wholeAt c cc0_stg6_0 (wo2 m c))

/-- Loading a whole buffer. -/
theorem wp_load_all (c : Dev nD) {s : Shape} {e : EltTy} (M : Memref sig .tc .vmem s e) (f : Buf (Elt F) (M.view.loc (c : Thread nD τ))) (r : LoadRect s)
    {hl : M.view.LoadsAt r} (v : Vec F r.shape e) (hv : M.view.readAt (Elt F) r f = v) :
    (M.view.loc (c : Thread nD τ) ↦{fullShare} f : sProp 𝕄) ⊢ wpk c (Prog.lift (.load M r hl)) fun w => iprop(⌜w = v⌝ ∗ (M.view.loc (c : Thread nD τ) ↦{fullShare} f)) := by
  unfold Prog.lift
  iintro H
  iapply (wp_load 𝒱₀ (c : Thread nD τ) none Set.univ (m := M) (Finset.subset_univ _)) $$ H
  iintro H
  rw [wp_ret]; imodintro
  iframe H
  ipureintro; exact hv

/-- A peer's greeting, read as what the first layer needs from it. -/
theorem hello (c : Dev nD) (r : Fin 15) : iprop(recs m ∗ barPay c (pr c r)) ⊢ iprop(SLOT 0 c r ∗ HAVE 0 c r : sProp 𝕄) := by
  unfold barPay SLOT HAVE
  rw [slotOf_back, if_pos (by omega)]
  iintro ⟨#HR, H1, H2⟩
  ihave ⟨-, #H0⟩ := (recs_ag m (pr c r) c) $$ HR
  iframe H1 H2
  iexact H0

theorem have_succ (k : ℕ) (c : Dev nD) : iprop(emp) ⊢ (bsL all15 (HAVE (k + 1) c) : sProp 𝕄) := bsL_emp all15
theorem mine_zero (c : Dev nD) : iprop(emp) ⊢ (bsL all15 (MINE 0 c) : sProp 𝕄) := bsL_emp all15

/-- After the last layer a device has its own slots and blocks back. -/
theorem mine_back (c : Dev nD) (r : Fin 15) : MINE 3 c r ⊢ (∃ f, rsS c (pr c r).val f : sProp 𝕄) := by
  unfold MINE agX
  iintro ⟨H, -⟩
  iexact H
theorem slot_back (c : Dev nD) (r : Fin 15) : SLOT 3 c r ⊢ (∃ f, xgS c (r.val + 1) f : sProp 𝕄) := by
  unfold SLOT
  rw [if_neg (by omega)]

/-- Between two layers: the next layer's input is stored. -/
theorem wp_next (k : ℕ) (c : Dev nD) :
    DONE k c ⊢ wpk c (fill xgM (Memref.isWhole_whole _) (X m (k + 1) c)) fun _ => LAY m (k + 1) c := by
  unfold DONE LAY
  iintro ⟨Hx, H⟩
  iapply (wpk_use (wp_fill m (k + 1) c) _) $$ Hx
  iintro %_ Hx
  iframe Hx
  iexact H

theorem above_l2 (c : Dev nD) {b : ℕ} (hb : b < 6) : Above b (layDue 2 c []) := above_lay (by omega) (by omega) c (above_nil b)
theorem above_l1 (c : Dev nD) {b : ℕ} (hb : b < 4) : Above b (layDue 1 c (layDue 2 c [])) := above_lay (by omega) (by omega) c (above_l2 c (by omega))
theorem above_l0 (c : Dev nD) {b : ℕ} (hb : b < 2) : Above b (layDue 0 c (layDue 1 c (layDue 2 c []))) := above_lay (by omega) (by omega) c (above_l1 c (by omega))

theorem wp_dev (c : Dev nD) : iprop(emp) ⊢ (wpk c (Prog.lift .deviceId) fun d : Dev nD => iprop(⌜d = c⌝) : sProp 𝕄) := by
  unfold Prog.lift
  rw [wpk, wp_deviceId, wp_ret]
  iintro -
  imodintro
  ipureintro
  rfl

/-- The greetings: each peer is given its slot and its block of results. -/
theorem wp_hello (c : Dev nD) (rest : List Due) :
    iprop(recs m ∗ ow c (all15.map (barDue c) ++ rest) ∗ (bsL all15 fun r => dutyTok ER (barCell (pr c r)) 0 c)
        ∗ (bsL all15 fun r => iprop(∃ f, xgS c (r.val + 1) f)) ∗ (bsL all15 fun r => iprop(∃ f, rsS c (pr c r).val f)))
      ⊢ wpk c (seqL all15 (sayHere c)) fun _ => ow c rest := by
  iintro ⟨#HR, HO, HT, HX, HS⟩
  ihave H1 := (bsL_zip _ _ all15) $$ [HX HS]
  · iframe HX HS
  ihave H2 := (bsL_zip _ _ all15) $$ [HT H1]
  · iframe HT H1
  iapply (wpk_use (wp_loop_pay m c (sayHere c) (barDue c) _ (fun _ => iprop(emp)) rest (fun r l => ?_) all15) _) $$ [HO H2]
  rotate_left
  · iframe HO H2; iexact HR
  · iintro %_ ⟨HO, -⟩
    iexact HO
  · refine BIBase.Entails.trans ?_ ((wp_say m c r l).trans (wpk_mono c _ fun _ => ?_))
    · unfold barPay
      rw [slotOf_pr]
    · iintro H; iframe H

/-- The barrier's wait: each peer's slot and block of results. -/
theorem wp_greeted (c : Dev nD) (rest : List Due) (hrest : Above 1 rest) :
    iprop(recs m ∗ ow c rest ∗ cred (tallyAt (barCell c) 0 15) ∗ atPos ER (barCell c) 0 ∅ 0)
      ⊢ wpk c awaitAll fun _ => iprop(ow c rest ∗ atPos ER (barCell c) 1 ∅ 0 ∗ bsL all15 (SLOT 0 c) ∗ bsL all15 (HAVE 0 c)) := by
  iintro ⟨#HR, HO, HC, Hat⟩
  iapply (wpk_use (wp_await m c rest hrest) _) $$ [HO HC Hat]
  · iframe HO HC Hat; iexact HR
  iintro %_ ⟨HO, Hat, HB⟩
  ihave HB := (Entails.of_eq (peers_bigSep c fun d => barPay (F := F) c d)) $$ HB
  ihave HB := (bsL_know m (hello m c) all15) $$ [HB]
  · iframe HB; iexact HR
  ihave ⟨HSL, HH⟩ := (bsL_unzip _ _ all15) $$ HB
  iframe

set_option maxHeartbeats 1000000 in
theorem wp_prog (c : Dev nD) (fo : Vec F S64x512 .f32) :
    iprop(recs m ∗ ow c (allDue c) ∗ START c ∗ BUFS c ∗ STG m c ∗ wholeAt c cc0_stg7_0 fo)
      ⊢ wpk c (prog (Memref.whole cc0_stg0_0) (Memref.whole cc0_stg1_0) (Memref.whole cc0_stg2_0) (Memref.whole cc0_stg3_0) (Memref.whole cc0_stg4_0)
          (Memref.whole cc0_stg5_0) (Memref.whole cc0_stg6_0) (Memref.whole cc0_stg7_0) xgM (Memref.isWhole_whole _) partM (Memref.isWhole_whole _) rsM (Memref.isWhole_whole _)
          cc0_scratch3 cc0_scratch4 cc0_scratch5 cc0_scratch6)
        fun _ => iprop(ow c [] ∗ (bigSep Finset.univ fun o : Option (Fin 64) => semVal (kcell (c, o)) 0) ∗ BUFS c ∗ STG m c ∗ wholeAt c cc0_stg7_0 (OUT m c)) := by
  unfold START BUFS STG prog allDue
  rw [wpk, wp_bind]
  iintro ⟨#HR, HO, ⟨HT, HC, HU0, HU1, HU2, Hat⟩, ⟨⟨%f0, H0⟩, ⟨%f1, H1⟩, ⟨%f2, H2⟩⟩, ⟨Hs0, Hs1, Hs2, Hs3, Hs4, Hs5, Hs6⟩, Hs7⟩
  iapply (wpk_use (wp_dev (F := F) c) _) $$ []
  · iempintro
  iintro %c' %hc
  subst hc
  ihave ⟨Hx, HX⟩ := (xg_cut c' f0) $$ H0
  ihave ⟨Hr, HRS⟩ := (rs_cut c' f2) $$ H2
  ihave Hp := (Entails.of_eq (pt_whole c' f1)) $$ H1
  ihave ⟨Hb, HI, HPG, HPS, HPGD, HPSD⟩ := (open_all m c') $$ [Hat]
  · iframe Hat; iexact HR
  rw [wp_bind]
  iapply (wpk_use (wp_hello m c' _) _) $$ [HO HT HX HRS]
  · iframe HO HT HX HRS; iexact HR
  iintro %_ HO
  rw [wp_bind]
  iapply (wpk_use (wp_greeted m c' _ (above_l0 c' (by omega))) _) $$ [HO HC Hb]
  · iframe HO HC Hb; iexact HR
  iintro %_ ⟨HO, Hb, HSL, HH⟩
  rw [wp_bind]
  iapply (wpk_use (wp_load_all c' (Memref.whole cc0_stg0_0) (xin m c') _ _ (Memref.readAt_unit_zero (Elt F) cc0_stg0_0 hz2 _ _)) _) $$ Hs0
  iintro %x ⟨%hx, Hs0⟩
  subst hx
  rw [wp_bind]
  iapply (wpk_use (wp_fill m 0 c') _) $$ Hx
  iintro %_ Hx
  ihave HM := (mine_zero (F := F) c') $$ []
  · iempintro
  -- the three layers
  rw [wp_bind]
  iapply (wpk_use (wp_layer m 0 (by omega) c' (Memref.whole cc0_stg1_0) (Memref.whole cc0_stg2_0) (wholeAt c' cc0_stg1_0 (wi0 m c')) (wholeAt c' cc0_stg2_0 (wo0 m c'))
    (wp_load_all c' (Memref.whole cc0_stg1_0) (wi0 m c') _ _ (Memref.readAt_unit_zero (Elt F) cc0_stg1_0 hz2 _ _))
    (wp_load_all c' (Memref.whole cc0_stg2_0) (wo0 m c') _ _ (Memref.readAt_unit_zero (Elt F) cc0_stg2_0 hz2 _ _))
    (layDue 1 c' (layDue 2 c' [])) (above_l1 c' (by omega))) _) $$ [HO Hs1 Hs2 HH HU0 Hx Hp Hr HSL HM HPG HPS HPGD HPSD]
  · unfold LAY
    iframe HO Hs1 Hs2 HH HU0 Hx HSL HM HPG HPS HPGD HPSD
    isplitr; · iexact HR
    isplitl [Hp]; · iexists f1; iexact Hp
    iexact Hr
  iintro %v ⟨%hv, HO, Hs1, Hs2, HD⟩
  subst hv
  rw [wp_bind]
  iapply (wpk_use (wp_next m 0 c') _) $$ HD
  iintro %_ HL
  ihave HH := (have_succ (F := F) 0 c') $$ []
  · iempintro
  rw [wp_bind]
  iapply (wpk_use (wp_layer m 1 (by omega) c' (Memref.whole cc0_stg3_0) (Memref.whole cc0_stg4_0) (wholeAt c' cc0_stg3_0 (wi1 m c')) (wholeAt c' cc0_stg4_0 (wo1 m c'))
    (wp_load_all c' (Memref.whole cc0_stg3_0) (wi1 m c') _ _ (Memref.readAt_unit_zero (Elt F) cc0_stg3_0 hz2 _ _))
    (wp_load_all c' (Memref.whole cc0_stg4_0) (wo1 m c') _ _ (Memref.readAt_unit_zero (Elt F) cc0_stg4_0 hz2 _ _))
    (layDue 2 c' []) (above_l2 c' (by omega))) _) $$ [HO Hs3 Hs4 HH HU1 HL]
  · iframe HO Hs3 Hs4 HH HU1
    isplitr; · iexact HR
    iexact HL
  iintro %v ⟨%hv, HO, Hs3, Hs4, HD⟩
  subst hv
  rw [wp_bind]
  iapply (wpk_use (wp_next m 1 c') _) $$ HD
  iintro %_ HL
  ihave HH := (have_succ (F := F) 1 c') $$ []
  · iempintro
  rw [wp_bind]
  iapply (wpk_use (wp_layer m 2 (by omega) c' (Memref.whole cc0_stg5_0) (Memref.whole cc0_stg6_0) (wholeAt c' cc0_stg5_0 (wi2 m c')) (wholeAt c' cc0_stg6_0 (wo2 m c'))
    (wp_load_all c' (Memref.whole cc0_stg5_0) (wi2 m c') _ _ (Memref.readAt_unit_zero (Elt F) cc0_stg5_0 hz2 _ _))
    (wp_load_all c' (Memref.whole cc0_stg6_0) (wo2 m c') _ _ (Memref.readAt_unit_zero (Elt F) cc0_stg6_0 hz2 _ _))
    [] (above_nil _)) _) $$ [HO Hs5 Hs6 HH HU2 HL]
  · iframe HO Hs5 Hs6 HH HU2
    isplitr; · iexact HR
    iexact HL
  iintro %v ⟨%hv, HO, Hs5, Hs6, HD⟩
  subst hv
  unfold DONE
  icases HD with ⟨Hx, ⟨%fp, Hp⟩, Hr, HSL, HM, HPG, HPS, HPGD, HPSD⟩
  imod (close_all m c') $$ [Hb HI HPG HPS HPGD HPSD] with Hz
  · iframe Hb HI HPG HPS HPGD HPSD; iexact HR
  iapply (wpk_use (wp_stOut c' fo (OUT m c')) _) $$ Hs7
  iintro %_ Hs7
  iframe HO Hz Hs0 Hs1 Hs2 Hs3 Hs4 Hs5 Hs6 Hs7
  ihave H2 := (rs_uncut m c') $$ [Hr HM]
  · iframe Hr
    iapply (bsL_mono (mine_back (F := F) c') all15) $$ HM
  ihave H0 := (xg_uncut m c') $$ [Hx HSL]
  · iframe Hx
    iapply (bsL_mono (slot_back (F := F) c') all15) $$ HSL
  iframe H0 H2
  iexists fp
  iapply (Entails.of_eq (pt_whole c' fp).symm) $$ Hp

end Cert.KernelIdeal.Mlp
-- ==== Proof.Ideal.Ghost.lean ====
/- What the launch hands out: the tokens of the duties each device pays, and the credit of what the others owe it. -/
module

public import proofs.«01_k».proof.Proof.Ideal.Cells
public import Idealize.ShloMosaic.Lib.Pipeline.Launch
public import Idealize.ShloMosaic.Lib.Pipeline.Kit

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Tokens -/

/-- The duties that device `c` pays towards its `r`-th peer: the greeting, and in each layer the input's arrival, its send, the result's arrival, its send. -/
def payTok (x : Dev nD × Fin 15 × Option (Fin 3 × Fin 4)) : GSem nD τ sig × ℕ × Dev nD := match x with
  | (c, r, none) => (barCell (pr c r), 0, c)
  | (c, r, some (k, 0)) => (agCell (pr c r) c, k.val, c)
  | (c, r, some (k, 1)) => (agdCell c (ix r), k.val, c)
  | (c, r, some (k, 2)) => (rsCell (pr c r) c, k.val, c)
  | (c, r, some (k, 3)) => (rsdCell c (ix r), k.val, c)

/-- What a duty's cell is for, told from its place in the list. -/
def payKind (x : Dev nD × Fin 15 × Option (Fin 3 × Fin 4)) : Kind := match x with
  | (_, _, none) => .bar
  | (c, _, some (_, 0)) => .ag c
  | (_, r, some (_, 1)) => .agd (ix r)
  | (c, _, some (_, 2)) => .rs c
  | (_, r, some (_, 3)) => .rsd (ix r)

theorem payKind_eq (x : Dev nD × Fin 15 × Option (Fin 3 × Fin 4)) : kind (payTok x).1.2 = payKind x := by
  obtain ⟨c, r, _ | ⟨k, j⟩⟩ := x
  · rfl
  · fin_cases j
    · exact kind_ag c
    · exact kind_agd (ix r)
    · exact kind_rs c
    · exact kind_rsd (ix r)

theorem ix_inj {r r' : Fin 15} (h : ix r = ix r') : r = r' := by
  have := congrArg Fin.val h
  exact Fin.ext (Nat.succ.inj this)

theorem payTok_injective : Function.Injective payTok := by
  rintro ⟨c, r, t⟩ ⟨c', r', t'⟩ h
  have hc : c = c' := by
    have := congrArg (fun y : GSem nD τ sig × ℕ × Dev nD => y.2.2) h
    rcases t with _ | ⟨k, j⟩ <;> rcases t' with _ | ⟨k', j'⟩ <;> (try fin_cases j) <;> (try fin_cases j') <;> exact this
  subst hc
  have hk : payKind (c, r, t) = payKind (c, r', t') := by rw [← payKind_eq, ← payKind_eq, h]
  have hd : (payTok (c, r, t)).1.1.1 = (payTok (c, r', t')).1.1.1 := by rw [h]
  have hr : (payTok (c, r, t)).2.1 = (payTok (c, r', t')).2.1 := by rw [h]
  rcases t with _ | ⟨k, j⟩ <;> rcases t' with _ | ⟨k', j'⟩
  · rw [pr_inj c hd]
  · fin_cases j' <;> exact absurd hk (fun e => by cases e)
  · fin_cases j <;> exact absurd hk (fun e => by cases e)
  · have e : k = k' := by fin_cases j <;> fin_cases j' <;> exact Fin.ext hr
    subst e
    fin_cases j <;> fin_cases j' <;> first
      | (have e : r = r' := pr_inj c hd
         subst e; rfl)
      | (have e : r = r' := ix_inj (by first | exact Kind.agd.inj hk | exact Kind.rsd.inj hk)
         subst e; rfl)
      | exact absurd hk (fun e => by cases e)

def payToks : Finset (GSem nD τ sig × ℕ × Dev nD) := Finset.univ.map ⟨payTok, payTok_injective⟩

/-- The tokens of a device. -/
def TOKS (c : Dev nD) : sProp 𝕄 :=
  iprop((bsL all15 fun r => dutyTok ER (barCell (pr c r)) 0 c) ∗ (bsL all15 (TG 0 c) ∗ bsL all15 (TS 0 c))
    ∗ (bsL all15 (TG 1 c) ∗ bsL all15 (TS 1 c)) ∗ (bsL all15 (TG 2 c) ∗ bsL all15 (TS 2 c)))

theorem opt_bigSep' {α : Type} [Fintype α] [DecidableEq α] (Φ : Option α → sProp 𝕄) : bigSep Finset.univ Φ = iprop(Φ none ∗ bigSep Finset.univ fun j => Φ (some j)) := by
  rw [show (Finset.univ : Finset (Option α)) = insert none (Finset.univ.map Function.Embedding.some) from by
      ext x; cases x <;> simp,
    BI.bigSep_insert (by simp), bigSep_map]
  rfl

theorem four_bigSep (Φ : Fin 4 → sProp 𝕄) : bigSep Finset.univ Φ = iprop(Φ 0 ∗ Φ 1 ∗ Φ 2 ∗ Φ 3) := bigSep_univ_eq_bigSepL [0, 1, 2, 3] (by decide) (by decide) Φ
theorem three_bigSep (Φ : Fin 3 → sProp 𝕄) : bigSep Finset.univ Φ = iprop(Φ 0 ∗ Φ 1 ∗ Φ 2) := bigSep_univ_eq_bigSepL [0, 1, 2] (by decide) (by decide) Φ

theorem toks_deal : bigSep payToks (fun x => (dutyTok ER x.1 x.2.1 x.2.2 : sProp 𝕄)) ⊢ bigSep Finset.univ fun c : Dev nD => TOKS c := by
  unfold payToks
  rw [bigSep_map, bigSep_univ_prod]
  refine bigSep_mono fun c _ => ?_
  rw [bigSep_univ_prod, ← all15_bigSep]
  refine BIBase.Entails.trans (bsL_mono (Ψ := fun r => iprop(dutyTok ER (barCell (pr c r)) 0 c ∗ (TG 0 c r ∗ TS 0 c r) ∗ (TG 1 c r ∗ TS 1 c r) ∗ (TG 2 c r ∗ TS 2 c r))) (fun r => ?_) all15) ?_
  · rw [opt_bigSep', bigSep_univ_prod, three_bigSep, four_bigSep, four_bigSep, four_bigSep]
    unfold TG TS
    iintro ⟨Hb, ⟨A0, B0, C0, D0⟩, ⟨A1, B1, C1, D1⟩, ⟨A2, B2, C2, D2⟩⟩
    isplitl [Hb]; · iexact Hb
    isplitl [A0 B0 C0 D0]
    · isplitl [A0 B0]
      · isplitl [A0]; · iexact A0
        iexact B0
      · isplitl [C0]; · iexact C0
        iexact D0
    isplitl [A1 B1 C1 D1]
    · isplitl [A1 B1]
      · isplitl [A1]; · iexact A1
        iexact B1
      · isplitl [C1]; · iexact C1
        iexact D1
    · isplitl [A2 B2]
      · isplitl [A2]; · iexact A2
        iexact B2
      · isplitl [C2]; · iexact C2
        iexact D2
  · unfold TOKS
    iintro H
    ihave ⟨Hb, H⟩ := (bsL_unzip _ _ all15) $$ H
    ihave ⟨H0, H⟩ := (bsL_unzip _ _ all15) $$ H
    ihave ⟨H1, H2⟩ := (bsL_unzip _ _ all15) $$ H
    ihave H0 := (bsL_unzip _ _ all15) $$ H0
    ihave H1 := (bsL_unzip _ _ all15) $$ H1
    ihave H2 := (bsL_unzip _ _ all15) $$ H2
    iframe

/-! ## Credit -/

/-- What each device owes at the launch. -/
def O₀ (c : Dev nD) : CellTallies nD τ sig ℕ := tl (allDue c)

theorem tl_append (l l' : List Due) : tl (l ++ l') = tl l + tl l' := by
  induction l with
  | nil => exact (zero_add _).symm
  | cons x l ih =>
    show tl (l ++ l') + tallyAt x.1 x.2.1 x.2.2 = (tl l + tallyAt x.1 x.2.1 x.2.2) + tl l'
    rw [ih, add_right_comm]

theorem tl_ne {l : List Due} {g : GSem nD τ sig} (u : ℕ) (h : ∀ x ∈ l, x.1 ≠ g) : tl l g u = 0 := by
  rcases Nat.eq_zero_or_pos (tl l g u) with h0 | h0
  · exact h0
  · obtain ⟨x, hx, e, -⟩ := tl_pos h0
    exact absurd e.symm (h x hx)

theorem tl_map {α : Type} (f : α → Due) (l : List α) (g : GSem nD τ sig) (u : ℕ) :
    tl (l.map f) g u = (l.map fun a => if g = (f a).1 ∧ u = (f a).2.1 then (f a).2.2 else 0).sum := by
  induction l with
  | nil => rfl
  | cons a l ih =>
    show (tl (l.map f) + tallyAt (f a).1 (f a).2.1 (f a).2.2 : CellTallies nD τ sig ℕ) g u = _
    rw [Pi.add_apply, Finsupp.add_apply, ih, tallyAt_apply, List.map_cons, List.sum_cons, Nat.add_comm]

theorem sum_all15 (f : Fin 15 → ℕ) : (all15.map f).sum = ∑ a, f a := by
  rw [← List.sum_toFinset f (by decide)]
  exact Finset.sum_congr (by decide) fun _ _ => rfl

/-- A debt of one kind, paid by each device to its peers' cells of its own index. -/
theorem tl_one (cell : Dev nD → Dev nD → GSem nD τ sig) (hcell : ∀ p i p' i', cell p i = cell p' i' → p = p' ∧ i = i') (k : ℕ) (d c : Dev nD) (r : Fin 15) (u : ℕ) :
    tl (all15.map fun a => (cell (pr d a) d, k, N)) (cell c (pr c r)) u = if d = pr c r ∧ u = k then N else 0 := by
  rw [tl_map, sum_all15]
  by_cases h : d = pr c r ∧ u = k
  · obtain ⟨rfl, rfl⟩ := h
    rw [if_pos ⟨rfl, rfl⟩, Finset.sum_eq_single (rv r)]
    · exact if_pos ⟨by rw [pr_pr], rfl⟩
    · intro a _ ha
      refine if_neg fun e => ha (pr_inj (pr c r) ?_)
      rw [pr_pr]; exact (hcell _ _ _ _ e.1).1.symm
    · intro ha; exact absurd (Finset.mem_univ _) ha
  · rw [if_neg h]
    exact Finset.sum_eq_zero fun a _ => if_neg fun e => h ⟨(hcell _ _ _ _ e.1).2.symm, e.2⟩

theorem agCell_inj (p i p' i' : Dev nD) (h : agCell p i = agCell p' i') : p = p' ∧ i = i' :=
  ⟨congrArg (fun g : GSem nD τ sig => g.1.1) h, Kind.ag.inj (by rw [← kind_ag, ← kind_ag]; exact congrArg (fun g : GSem nD τ sig => kind g.2) h)⟩
theorem rsCell_inj (p i p' i' : Dev nD) (h : rsCell p i = rsCell p' i') : p = p' ∧ i = i' :=
  ⟨congrArg (fun g : GSem nD τ sig => g.1.1) h, Kind.rs.inj (by rw [← kind_rs, ← kind_rs]; exact congrArg (fun g : GSem nD τ sig => kind g.2) h)⟩

theorem cell_ne {g g' : GSem nD τ sig} {k k' : Kind} (h : kind g.2 = k) (h' : kind g'.2 = k') (hk : k ≠ k') : g ≠ g' := fun e => hk (by rw [← h, ← h', e])

/-- All of a device's debts of one kind. -/
theorem owed_ag (d c : Dev nD) (r : Fin 15) (u : ℕ) :
    O₀ d (agCell c (pr c r)) u = (if d = pr c r ∧ u = 0 then N else 0) + ((if d = pr c r ∧ u = 1 then N else 0) + (if d = pr c r ∧ u = 2 then N else 0)) := by
  have hb : tl (all15.map (barDue d)) (agCell c (pr c r)) u = 0 := tl_ne u fun x hx => by
    obtain ⟨a, -, rfl⟩ := List.mem_map.mp hx
    exact cell_ne (kind_bar) (kind_ag _) (fun e => by cases e)
  have hr : ∀ k, tl (all15.map (rsDue k d)) (agCell c (pr c r)) u = 0 := fun k => tl_ne u fun x hx => by
    obtain ⟨a, -, rfl⟩ := List.mem_map.mp hx
    exact cell_ne (kind_rs _) (kind_ag _) (fun e => by cases e)
  have ha : ∀ k, tl (all15.map (agDue k d)) (agCell c (pr c r)) u = if d = pr c r ∧ u = k then N else 0 := fun k => tl_one agCell agCell_inj k d c r u
  have h0 : tl [] (agCell c (pr c r)) u = 0 := rfl
  unfold O₀ allDue layDue
  simp only [tl_append, Pi.add_apply, Finsupp.add_apply, hb, hr, ha, h0, zero_add, add_zero]

theorem owed_rs (d c : Dev nD) (r : Fin 15) (u : ℕ) :
    O₀ d (rsCell c (pr c r)) u = (if d = pr c r ∧ u = 0 then N else 0) + ((if d = pr c r ∧ u = 1 then N else 0) + (if d = pr c r ∧ u = 2 then N else 0)) := by
  have hb : tl (all15.map (barDue d)) (rsCell c (pr c r)) u = 0 := tl_ne u fun x hx => by
    obtain ⟨a, -, rfl⟩ := List.mem_map.mp hx
    exact cell_ne (kind_bar) (kind_rs _) (fun e => by cases e)
  have hr : ∀ k, tl (all15.map (agDue k d)) (rsCell c (pr c r)) u = 0 := fun k => tl_ne u fun x hx => by
    obtain ⟨a, -, rfl⟩ := List.mem_map.mp hx
    exact cell_ne (kind_ag _) (kind_rs _) (fun e => by cases e)
  have ha : ∀ k, tl (all15.map (rsDue k d)) (rsCell c (pr c r)) u = if d = pr c r ∧ u = k then N else 0 := fun k => tl_one rsCell rsCell_inj k d c r u
  have h0 : tl [] (rsCell c (pr c r)) u = 0 := rfl
  unfold O₀ allDue layDue
  simp only [tl_append, Pi.add_apply, Finsupp.add_apply, hb, hr, ha, h0, zero_add, add_zero]

theorem barSum : ∀ c d : Dev nD, (∑ a : Fin 15, if c = pr d a then 1 else 0) = if d = c then 0 else 1 := by decide
theorem owed_bar (d c : Dev nD) (u : ℕ) : O₀ d (barCell c) u = if u = 0 then (if d = c then 0 else 1) else 0 := by
  have hr : ∀ k, tl (all15.map (rsDue k d)) (barCell c) u = 0 := fun k => tl_ne u fun x hx => by
    obtain ⟨a, -, rfl⟩ := List.mem_map.mp hx
    exact cell_ne (kind_rs _) kind_bar (fun e => by cases e)
  have ha : ∀ k, tl (all15.map (agDue k d)) (barCell c) u = 0 := fun k => tl_ne u fun x hx => by
    obtain ⟨a, -, rfl⟩ := List.mem_map.mp hx
    exact cell_ne (kind_ag _) kind_bar (fun e => by cases e)
  have h0 : tl [] (barCell c) u = 0 := rfl
  have hb : tl (all15.map (barDue d)) (barCell c) u = if u = 0 then (if d = c then 0 else 1) else 0 := by
    rw [tl_map, sum_all15]
    by_cases hu : u = 0
    · rw [if_pos hu, ← barSum]
      refine Finset.sum_congr rfl fun a _ => ?_
      by_cases h : c = pr d a
      · subst h; rw [if_pos rfl]; exact if_pos ⟨rfl, hu⟩
      · rw [if_neg h]; exact if_neg fun e => h (congrArg (fun g : GSem nD τ sig => g.1.1) e.1)
    · rw [if_neg hu]
      exact Finset.sum_eq_zero fun a _ => if_neg fun e => hu e.2
  unfold O₀ allDue layDue
  simp only [tl_append, Pi.add_apply, Finsupp.add_apply, hb, hr, ha, h0, add_zero]

theorem sum_one (i : Dev nD) (u k : ℕ) : (∑ d : Dev nD, if d = i ∧ u = k then N else 0) = (Finsupp.single k N : ℕ →₀ ℕ) u := by
  rw [Finsupp.single_apply]
  by_cases h : k = u
  · subst h; rw [if_pos rfl, Finset.sum_eq_single i]
    · exact if_pos ⟨rfl, rfl⟩
    · intro d _ hd; exact if_neg fun e => hd e.1
    · intro ha; exact absurd (Finset.mem_univ _) ha
  · rw [if_neg h]; exact Finset.sum_eq_zero fun d _ => if_neg fun e => h e.2.symm

theorem launch_three (g : GSem nD τ sig) (i : Dev nD)
    (h : ∀ d u, O₀ d g u = (if d = i ∧ u = 0 then N else 0) + ((if d = i ∧ u = 1 then N else 0) + (if d = i ∧ u = 2 then N else 0))) :
    tallyOn g (launchCredit (Pipeline.owing O₀) 0 g) = (tallyAt g 0 N + (tallyAt g 1 N + tallyAt g 2 N) : CellTallies nD τ sig ℕ) := by
  unfold tallyAt
  rw [← tallyOn_add, ← tallyOn_add]
  refine congrArg _ (Finsupp.ext fun u => ?_)
  rw [Pipeline.launchCredit_owing, Finset.sum_congr rfl fun d _ => h d u, Finset.sum_add_distrib, Finset.sum_add_distrib, sum_one, sum_one, sum_one]
  rfl

theorem launch_bar (c : Dev nD) : tallyOn (barCell c) (launchCredit (Pipeline.owing O₀) 0 (barCell c)) = (tallyAt (barCell c) 0 15 : CellTallies nD τ sig ℕ) := by
  unfold tallyAt
  refine congrArg _ (Finsupp.ext fun u => ?_)
  rw [Pipeline.launchCredit_owing, Finset.sum_congr rfl fun d _ => owed_bar d c u, Finsupp.single_apply]
  by_cases hu : u = 0
  · subst hu
    rw [if_pos rfl]
    simp only [if_true]
    revert c; decide
  · rw [if_neg (fun e => hu e.symm)]
    exact Finset.sum_eq_zero fun d _ => if_neg hu

theorem cred_three (g : GSem nD τ sig) (i : Dev nD)
    (h : ∀ d u, O₀ d g u = (if d = i ∧ u = 0 then N else 0) + ((if d = i ∧ u = 1 then N else 0) + (if d = i ∧ u = 2 then N else 0))) :
    (cred (tallyOn g (launchCredit (Pipeline.owing O₀) 0 g)) : sProp 𝕄) ⊢ iprop(cred (tallyAt g 0 N) ∗ cred (tallyAt g 1 N) ∗ cred (tallyAt g 2 N)) := by
  rw [launch_three g i h]
  exact (cred_add _ _).1.trans (sep_mono_right (cred_add _ _).1)

theorem csem_injective : Function.Injective csem := by
  rintro (_ | j) (_ | j') h
  · rfl
  · cases h
  · cases h
  · have := SemLoc.dma.inj h
    have := congrArg Fin.val this
    have e : j = j' := Fin.ext (by have h' : 8 + j.val = 8 + j'.val := this; omega)
    rw [e]

/-- The credit of a device: fifteen greetings, and in each layer each peer's input and partial result. -/
def CREDS (c : Dev nD) : sProp 𝕄 :=
  iprop(cred (tallyAt (barCell c) 0 15) ∗ (bsL all15 (CG 0 c) ∗ bsL all15 (CS 0 c)) ∗ (bsL all15 (CG 1 c) ∗ bsL all15 (CS 1 c)) ∗ (bsL all15 (CG 2 c) ∗ bsL all15 (CS 2 c)))

theorem creds (c : Dev nD) : (Pipeline.launchCred O₀ c : sProp 𝕄) ⊢ CREDS c := by
  unfold Pipeline.launchCred CREDS
  refine BIBase.Entails.trans (bigSep_subset (Finset.subset_univ (Finset.univ.map ⟨csem, csem_injective⟩))) ?_
  rw [bigSep_map]
  iintro H
  ihave ⟨Hb, ⟨-, HA⟩, ⟨-, HS⟩, -, -⟩ := (Entails.of_eq (cells_split c fun sm => (cred (tallyOn ((c : Thread nD τ), sm) (launchCredit (Pipeline.owing O₀) 0 ((c : Thread nD τ), sm))) : sProp 𝕄))) $$ H
  ihave HA := (bsL_mono (fun r => cred_three (F := F) (agCell c (pr c r)) (pr c r) fun d u => owed_ag d c r u) all15) $$ HA
  ihave HS := (bsL_mono (fun r => cred_three (F := F) (rsCell c (pr c r)) (pr c r) fun d u => owed_rs d c r u) all15) $$ HS
  ihave ⟨A0, HA⟩ := (bsL_unzip _ _ all15) $$ HA
  ihave ⟨A1, A2⟩ := (bsL_unzip _ _ all15) $$ HA
  ihave ⟨S0, HS⟩ := (bsL_unzip _ _ all15) $$ HS
  ihave ⟨S1, S2⟩ := (bsL_unzip _ _ all15) $$ HS
  ihave Hb := (Entails.of_eq (congrArg (cred (τ := τ) (sig := sig) (Ix := ℕ)) (launch_bar c))) $$ Hb
  isplitl [Hb]; · iexact Hb
  isplitl [A0 S0]
  · isplitl [A0]; · iexact A0
    iexact S0
  isplitl [A1 S1]
  · isplitl [A1]; · iexact A1
    iexact S1
  isplitl [A2]; · iexact A2
  iexact S2

end Cert.KernelIdeal.Mlp
-- ==== Proof.Ideal.Launch.lean ====
/- The launch: the pipeline's data, the body's obligation, and the run of the whole program. -/
module

public import proofs.«01_k».proof.Proof.Ideal.Whole
public import proofs.«01_k».proof.Proof.Ideal.Ghost
public import proofs.«01_k».proof.Proof.Gen.KernelIdeal.Points

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The memory at the start: the given contents, all semaphores at zero. -/
def s₀ : MemSt nD τ sig (Elt F) := ⟨m, fun _ => 0, ρ⟩

/-! ## The pipeline's data -/

/-- What a device's body starts from, and what it leaves. -/
def start (c : Dev nD) : sProp 𝕄 := iprop(recs m ∗ START c)
def Φ₀ (c : Dev nD) : sProp 𝕄 := iprop(start m c ∗ BUFS c)
def Φ₁ (c : Dev nD) : sProp 𝕄 := iprop((bigSep Finset.univ fun o : Option (Fin 64) => semVal (kcell (c, o)) 0) ∗ BUFS c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m c
    | ⟨1, _⟩ => wi0 m c
    | ⟨2, _⟩ => wo0 m c
    | ⟨3, _⟩ => wi1 m c
    | ⟨4, _⟩ => wo1 m c
    | ⟨5, _⟩ => wi2 m c
    | ⟨6, _⟩ => wo2 m c
    | ⟨7, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem bigSep_W (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-- A staging buffer at the contents `X`. -/
def stg (c : Dev nD) (b : Ref sig .tc) (X : b.ty.Contents (Elt F)) : sProp 𝕄 := iprop(∃ f : Buf (Elt F) ((c : Thread nD τ).loc b), ⌜f = X⌝ ∗ (((c : Thread nD τ).loc b) ↦{fullShare} f))
theorem stg_open (c : Dev nD) (b : Ref sig .tc) (X : b.ty.Contents (Elt F)) : stg c b X ⊢ wholeAt c b X := by
  unfold stg
  iintro ⟨%f, %hf, H⟩
  subst hf
  iexact H
theorem stg_close (c : Dev nD) (b : Ref sig .tc) (X : b.ty.Contents (Elt F)) : wholeAt c b X ⊢ stg c b X := by
  unfold stg
  iintro H
  iexists X
  isplitr
  · ipureintro; rfl
  · iexact H

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m c ∗ (dats m ρ 0 c).owesAt 0 t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))
def bodyPost (c : Dev nD) : sProp 𝕄 :=
  iprop(Φ₁ c ∗ (dats m ρ 0 c).owesAt 0 t₀.succ
    ∗ stg c cc0_stg0_0 (xin m c) ∗ stg c cc0_stg1_0 (wi0 m c) ∗ stg c cc0_stg2_0 (wo0 m c) ∗ stg c cc0_stg3_0 (wi1 m c)
    ∗ stg c cc0_stg4_0 (wo1 m c) ∗ stg c cc0_stg5_0 (wi2 m c) ∗ stg c cc0_stg6_0 (wo2 m c) ∗ stg c cc0_stg7_0 (OUT m c))

/-- The debts of the body's start and end, between the pipeline's form and the proof's. -/
theorem owes_start (c : Dev nD) : (dats m ρ 0 c).owesAt 0 t₀.castSucc ⊢ (ow c (allDue c) : sProp 𝕄) := by
  unfold Dat.owesAt Pipeline.owesWithin ow
  rw [show (dats m ρ 0 c).owed t₀.castSucc = O₀ c from rfl]
  iintro ⟨%W, %hW, HO⟩
  iexists W
  iexact HO
theorem owes_end (c : Dev nD) : (ow c [] : sProp 𝕄) ⊢ (dats m ρ 0 c).owesAt 0 t₀.succ := by
  unfold Dat.owesAt Pipeline.owesWithin ow
  rw [show (dats m ρ 0 c).owed t₀.succ = 0 from rfl]
  iintro ⟨%W, HO⟩
  iexists W
  isplitr
  · ipureintro; exact fun _ _ => Or.inl trivial
  · iexact HO

theorem body_run (c : Dev nD) :
    bodyPre m ρ c ⊢ wpk c (prog (F := F) (Memref.whole cc0_stg0_0) (Memref.whole cc0_stg1_0) (Memref.whole cc0_stg2_0) (Memref.whole cc0_stg3_0) (Memref.whole cc0_stg4_0)
          (Memref.whole cc0_stg5_0) (Memref.whole cc0_stg6_0) (Memref.whole cc0_stg7_0) xgM (Memref.isWhole_whole _) partM (Memref.isWhole_whole _) rsM (Memref.isWhole_whole _)
          cc0_scratch3 cc0_scratch4 cc0_scratch5 cc0_scratch6) fun _ => bodyPost m ρ c := by
  unfold bodyPre Φ₀ start
  iintro ⟨⟨⟨#HR, HS⟩, HB⟩, HO, ⟨%d0, H0⟩, ⟨%d1, H1⟩, ⟨%d2, H2⟩, ⟨%d3, H3⟩, ⟨%d4, H4⟩, ⟨%d5, H5⟩, ⟨%d6, H6⟩, ⟨%d7, H7⟩⟩
  rw [show (dats m ρ 0 c).before (0 : Fin 8) t₀ d0 = xin m c from by unfold Dat.before; rw [if_pos (fetch0_0 t₀)]; rfl,
    show (dats m ρ 0 c).before (1 : Fin 8) t₀ d1 = wi0 m c from by unfold Dat.before; rw [if_pos (fetch0_1 t₀)]; rfl,
    show (dats m ρ 0 c).before (2 : Fin 8) t₀ d2 = wo0 m c from by unfold Dat.before; rw [if_pos (fetch0_2 t₀)]; rfl,
    show (dats m ρ 0 c).before (3 : Fin 8) t₀ d3 = wi1 m c from by unfold Dat.before; rw [if_pos (fetch0_3 t₀)]; rfl,
    show (dats m ρ 0 c).before (4 : Fin 8) t₀ d4 = wo1 m c from by unfold Dat.before; rw [if_pos (fetch0_4 t₀)]; rfl,
    show (dats m ρ 0 c).before (5 : Fin 8) t₀ d5 = wi2 m c from by unfold Dat.before; rw [if_pos (fetch0_5 t₀)]; rfl,
    show (dats m ρ 0 c).before (6 : Fin 8) t₀ d6 = wo2 m c from by unfold Dat.before; rw [if_pos (fetch0_6 t₀)]; rfl]
  ihave HO := (owes_start m ρ c) $$ HO
  ihave H0 := (stg_open c cc0_stg0_0 _) $$ H0
  ihave H1 := (stg_open c cc0_stg1_0 _) $$ H1
  ihave H2 := (stg_open c cc0_stg2_0 _) $$ H2
  ihave H3 := (stg_open c cc0_stg3_0 _) $$ H3
  ihave H4 := (stg_open c cc0_stg4_0 _) $$ H4
  ihave H5 := (stg_open c cc0_stg5_0 _) $$ H5
  ihave H6 := (stg_open c cc0_stg6_0 _) $$ H6
  ihave H7 := (stg_open c cc0_stg7_0 _) $$ H7
  iapply (wpk_use (wp_prog m c _) _) $$ [HO HS HB H0 H1 H2 H3 H4 H5 H6 H7]
  · unfold STG
    iframe HO HS HB H0 H1 H2 H3 H4 H5 H6 H7
    iexact HR
  unfold STG bodyPost Φ₁
  iintro %_ ⟨HO, HZ, HB, ⟨H0, H1, H2, H3, H4, H5, H6⟩, H7⟩
  ihave HO := (owes_end m ρ c) $$ HO
  ihave H0 := (stg_close c cc0_stg0_0 _) $$ H0
  ihave H1 := (stg_close c cc0_stg1_0 _) $$ H1
  ihave H2 := (stg_close c cc0_stg2_0 _) $$ H2
  ihave H3 := (stg_close c cc0_stg3_0 _) $$ H3
  ihave H4 := (stg_close c cc0_stg4_0 _) $$ H4
  ihave H5 := (stg_close c cc0_stg5_0 _) $$ H5
  ihave H6 := (stg_close c cc0_stg6_0 _) $$ H6
  ihave H7 := (stg_close c cc0_stg7_0 _) $$ H7
  iframe HZ HB HO H0 H1 H2 H3 H4 H5 H6 H7

seal cc0_body in
/-- The launched body, with its buffers written out. -/
theorem launched_eq : defs₀ (F := F) .tc cfg0.body (cfg0.bodyArgs t₀ (cfg0.slots t₀)) = cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 := rfl

theorem launched_prog : defs₀ (F := F) .tc cfg0.body (cfg0.bodyArgs t₀ (cfg0.slots t₀)) = prog (F := F) (Memref.whole cc0_stg0_0) (Memref.whole cc0_stg1_0) (Memref.whole cc0_stg2_0) (Memref.whole cc0_stg3_0) (Memref.whole cc0_stg4_0) (Memref.whole cc0_stg5_0) (Memref.whole cc0_stg6_0) (Memref.whole cc0_stg7_0) xgM (Memref.isWhole_whole _) partM (Memref.isWhole_whole _) rsM (Memref.isWhole_whole _) cc0_scratch3 cc0_scratch4 cc0_scratch5 cc0_scratch6 :=
  launched_eq.trans (body_eq ..)

seal prog in
/-- The launched body meets the pipeline's obligation. -/
theorem body_obligation (c : Dev nD) : BodyObligation (dats (F := F) m ρ 0 c) (defs₀ (F := F)) 𝒱₀ 0 Set.univ := fun t => by
  rw [fin_N0 t, launched_prog]
  rw [bigSep_W, bigSep_W]
  simp only [owns_whole_eq]
  exact body_run m ρ c

end Cert.KernelIdeal.Mlp
-- ==== Proof.Ideal.Run.lean ====
/- The run of the whole program: what the launch deals out, and the theorem of the pipeline applied. -/
module

public import proofs.«01_k».proof.Proof.Ideal.Launch
public import Idealize.ShloMosaic.Lib.Pipeline.CollectiveSegs

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

/-- The kernel's own semaphores: the four arrays of transfer semaphores. -/
def osem (j : Fin 64) : SemLoc sig := csem (some j)

theorem ownSemFacts : Pipeline.OwnSemFacts cfg0.spec osem := by decide

theorem share_eq (c : Dev nD) (w : Fin cfg0.W) : (dats m ρ 0 c).share w = fullShare := by
  unfold Dat.share; split <;> rfl

theorem kcell_injective : Function.Injective (kcell : Dev nD × Option (Fin 64) → GSem nD τ sig) := fun x y h =>
  Prod.ext (show x.1 = y.1 from congrArg (fun g : GSem nD τ sig => g.1.1) h) (csem_injective (congrArg (fun g : GSem nD τ sig => g.2) h))

def ringCells : Finset (GSem nD τ sig) := Finset.univ.map ⟨kcell, kcell_injective⟩

/-- What the two ghost resources start from. -/
def u₀ : UU := (initOf (Pipeline.cells cfgs cellOf_inj) (Pipeline.launchToks cfgs cellOf_inj), initOf ringCells payToks)

/-- A device's share of the protocol's ghost resource at the start. -/
def G (c : Dev nD) : sProp 𝕄 :=
  iprop((bigSep Finset.univ fun o : Option (Fin 64) => roundState ER (Rd m) (kcell (c, o)) 0)
    ∗ (bigSep Finset.univ fun o : Option (Fin 64) => iprop(atPos ER (kcell (c, o)) 0 ∅ 0 ∗ reached ER (kcell (c, o)) 0)) ∗ TOKS c)

/-- What every device knows of the cells, without the levels. -/
def know : sProp 𝕄 :=
  bigSep Finset.univ fun x : Dev nD × Option (Fin 64) => iprop((∃ κ : ℕ, cellInv ER (Rd m) κ (kcell x)) ∗ reached ER (kcell x) 0)

instance know_persistent : BI.Persistent (know m) := by unfold know; infer_instance

/-- The same share once every cell's invariant stands. -/
def G' (c : Dev nD) : sProp 𝕄 :=
  iprop(know m ∗ (bigSep Finset.univ fun o : Option (Fin 64) => atPos ER (kcell (c, o)) 0 ∅ 0) ∗ TOKS c)

omit [FloatOps F] in
theorem cells_of (Φ : GSem nD τ sig → sProp 𝕄) :
    bigSep ringCells Φ = bigSep Finset.univ fun c : Dev nD => bigSep Finset.univ fun o : Option (Fin 64) => Φ (kcell (c, o)) := by
  unfold ringCells
  rw [bigSep_map, bigSep_univ_prod]
  rfl

theorem fund : BI.own (ER (initOf ringCells payToks)) ⊢ (|==> bigSep Finset.univ (G m) : sProp 𝕄) := by
  iintro HX
  imod (Rounds.fund ER (Rd m) ringCells payToks) $$ HX with ⟨Hs, Hr, Ha, Ht⟩
  imodintro
  ihave Hs := (Entails.of_eq (cells_of fun g => roundState ER (Rd m) g 0)) $$ Hs
  ihave Ha := (Entails.of_eq (cells_of fun g => (atPos ER g 0 ∅ 0 : sProp 𝕄))) $$ Ha
  ihave Hr := (Entails.of_eq (cells_of fun g => (reached ER g 0 : sProp 𝕄))) $$ Hr
  ihave Ht := (toks_deal (F := F)) $$ Ht
  unfold G
  simp only [bigSep_sep']
  iframe Hs Ha Hr Ht

/-! ## The semaphores -/

abbrev own0 (c : Dev nD) : sProp 𝕄 := Pipeline.ownSems0 (Ix := ℕ) (Name := ℕ) (U := UU) (Lvl := ℕ) (Val := Elt F) (τ := τ) osem c

omit [FloatOps F] in
theorem unscoped_eq (c : Dev nD) : (unscopedSems0 c : sProp 𝕄) = semVal (barCell c) 0 := by
  unfold unscopedSems0
  rw [bigSep_eq_bigSepL_of_eq [SemLoc.reg barSem] (by decide) (by decide)]
  rfl

theorem sems_eq (c : Dev nD) :
    (bigSep Finset.univ fun o : Option (Fin 64) => (semVal (kcell (c, o)) 0 : sProp 𝕄)) = iprop(unscopedSems0 c ∗ own0 (F := F) c) := by
  rw [opt_bigSep', unscoped_eq]
  rfl

theorem cells_alloc (c : Dev nD) :
    (bigSep Finset.univ fun o : Option (Fin 64) => iprop(semVal (kcell (c, o)) 0 ∗ roundState ER (Rd m) (kcell (c, o)) 0) : sProp 𝕄)
      ⊢ |={Set.univ}=> bigSep Finset.univ fun o : Option (Fin 64) => iprop(∃ κ : ℕ, cellInv ER (Rd m) κ (kcell (c, o))) :=
  (bigSep_mono fun o _ => (Rounds.body_intro ER (Rd m) (kcell (c, o))).trans inv_alloc).trans (bigSep_fupd _ _)

theorem core_alloc (c : Dev nD) :
    iprop(own0 (F := F) c ∗ unscopedSems0 c ∗ G m c)
      ⊢ |={Set.univ}=> iprop((bigSep Finset.univ fun o : Option (Fin 64) => iprop((∃ κ : ℕ, cellInv ER (Rd m) κ (kcell (c, o))) ∗ reached ER (kcell (c, o)) 0))
          ∗ (bigSep Finset.univ fun o : Option (Fin 64) => atPos ER (kcell (c, o)) 0 ∅ 0) ∗ TOKS c) := by
  unfold G
  rw [bigSep_sep', bigSep_sep']
  iintro ⟨Ho, Hu, Hs, ⟨Ha, Hr⟩, Ht⟩
  ihave Hz := (Entails.of_eq (sems_eq (F := F) c).symm) $$ [Ho Hu]
  · iframe
  ihave H := (Entails.of_eq (bigSep_sep' Finset.univ (fun o : Option (Fin 64) => semVal (kcell (c, o)) 0) (fun o => roundState ER (Rd m) (kcell (c, o)) 0)).symm) $$ [Hz Hs]
  · iframe
  imod (cells_alloc m c) $$ H with HI
  imodintro
  iframe Hr Ha Ht
  iexact HI

omit [FloatOps F] in
/-- A fact that may be copied goes to every factor. -/
theorem give_all {R : sProp 𝕄} [BI.Persistent R] (Φ : Dev nD → sProp 𝕄) : iprop(R ∗ bigSep Finset.univ Φ) ⊢ bigSep Finset.univ fun c => iprop(R ∗ Φ c) :=
  (sep_mono_left (BI.bigSep_of_persistent Finset.univ R)).trans (Entails.of_eq (bigSep_sep' _ _ _).symm)

theorem regroup :
    (bigSep Finset.univ fun c : Dev nD =>
        iprop((bigSep Finset.univ fun o : Option (Fin 64) => iprop((∃ κ : ℕ, cellInv ER (Rd m) κ (kcell (c, o))) ∗ reached ER (kcell (c, o)) 0))
          ∗ (bigSep Finset.univ fun o : Option (Fin 64) => atPos ER (kcell (c, o)) 0 ∅ 0) ∗ TOKS c) : sProp 𝕄)
      ⊢ bigSep Finset.univ (G' m) := by
  rw [bigSep_sep', ← bigSep_univ_prod (fun x : Dev nD × Option (Fin 64) => iprop((∃ κ : ℕ, cellInv ER (Rd m) κ (kcell x)) ∗ reached ER (kcell x) 0))]
  exact give_all (R := know m) _

/-- From all semaphores at zero, every cell's invariant at once. -/
theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The theorem's side conditions -/

theorem start_of (c : Dev nD) : iprop(levAts L lv ∗ CREDS c ∗ G' m c) ⊢ start m c := by
  unfold CREDS G' TOKS start START USE recs know
  iintro ⟨Hl, ⟨Cb, ⟨C0, D0⟩, ⟨C1, D1⟩, C2, D2⟩, HK, Ha, Tb, ⟨T0, S0⟩, ⟨T1, S1⟩, T2, S2⟩
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  ihave Hc := (creds (F := F) c) $$ Hc
  imodintro
  isplitl
  · iapply (start_of m c)
    iframe
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ BUFS
  iintro ⟨Hs, -, H⟩
  isplitl [Hs]
  · iexact Hs
  · iexact H

theorem phi_last (c : Dev nD) :
    (dats m ρ 0 c).Φ (Fin.last cfg0.N) ⊢ iprop(unscopedSems0 c ∗ own0 (F := F) c ∗ Pipeline.scopedRest cfg0.spec c) := by
  rw [show (dats m ρ 0 c).Φ (Fin.last cfg0.N) = Φ₁ c from rfl, scopedRest0_eq]
  unfold Φ₁ BUFS
  rw [sems_eq]
  iintro ⟨⟨Hu, Ho⟩, H⟩
  isplitl [Hu]
  · iexact Hu
  isplitl [Ho]
  · iexact Ho
  · iexact H

theorem wait_staged (c : Dev nD) (sm : SemLoc sig) (h : lv ((c : Thread nD τ), sm) 0 = 0) (O : CellTallies nD τ sig ℕ) (hO : O = O₀ c ∨ O = 0) :
    (levAts L lv : sProp 𝕄) ⊢ MayWait (c : Thread nD τ) sm 0 O := by
  rcases hO with rfl | rfl
  · exact mayWait_tl c sm 0 0 (by decide) (le_of_eq h) (l := allDue c) (above_all c)
  · exact mayWait_tl c sm 0 0 (by decide) (le_of_eq h) (l := []) (above_nil 0)

theorem staged_level (c : Dev nD) : ∀ (w : Fin cfg0.W) (s : Fin (cfg0.win w).nbuf), lv ((c : Thread nD τ), .dma ((cfg0.win w).sem s)) 0 = 0 := by
  intro w s
  fin_cases w <;> fin_cases s <;> rfl

theorem waits (c : Dev nD) : (levAts L lv : sProp 𝕄) ⊢ Pipeline.cellsWaits cfgs (dats m ρ) 0 0 c :=
  Pipeline.cellsWaits_intro cfgs (dats m ρ) 0 0 c fun w s t =>
    wait_staged c _ (staged_level c w s) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

seal prog in
seal cc0_body in
/-- Every weakly fair run of the sixteen devices ends, with each window's array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun g h => if_neg h) (hwaits := waits m ρ)
    (G := G m) (G' := G' m) (u₀ := u₀)
    (hu₀ := by
      unfold u₀
      iintro H
      ihave ⟨HP, HX⟩ := (ownU_pair _ _) $$ H
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mlp
-- ==== Proof.Ideal.Final.lean ====
/- What the run leaves: the arguments unchanged, the result array at its contents. -/
module

public import proofs.«01_k».proof.Proof.Ideal.Run
public import Idealize.ShloMosaic.Lib.Pipeline.ValueKit

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- An input window's array is what it was. -/
theorem finalA_in (c : Dev nD) (w : Fin cfg0.W) (h : (cfg0.win w).isOut = false) : finalA m ρ c w = m ((cfg0.win w).arr.view.loc (c : Thread nD τ)) :=
  (dats m ρ 0 c).arrAt_in w h _

/-- The arguments after the run. -/
def Kept (r : PUnit × MemSt nD τ sig (Elt F)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

theorem kept_of (r : PUnit × MemSt nD τ sig (Elt F)) (h : QC m ρ r) (c : Dev nD) : Kept m r c :=
  ⟨(h c (0 : Fin 8)).trans (finalA_in m ρ c (0 : Fin 8) rfl), (h c (1 : Fin 8)).trans (finalA_in m ρ c (1 : Fin 8) rfl),
    (h c (3 : Fin 8)).trans (finalA_in m ρ c (3 : Fin 8) rfl), (h c (5 : Fin 8)).trans (finalA_in m ρ c (5 : Fin 8) rfl),
    (h c (2 : Fin 8)).trans (finalA_in m ρ c (2 : Fin 8) rfl), (h c (4 : Fin 8)).trans (finalA_in m ρ c (4 : Fin 8) rfl),
    (h c (6 : Fin 8)).trans (finalA_in m ρ c (6 : Fin 8) rfl)⟩

/-- The frame: the arguments unchanged, every semaphore at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨kept_of m ρ r h.1, h.2⟩) (run_main m ρ)

/-- The result window's array: the block that the body left in its staging buffer. -/
theorem final_out (c : Dev nD) : finalA m ρ c (7 : Fin 8) = OUT m c := by
  unfold finalA
  refine (dats m ρ 0 c).arrAt_eq_of_after_last (7 : Fin 8) t0_0 (by decide) _ fun j => ?_
  blk_simp
  rfl

end Cert.KernelIdeal.Mlp
-- ==== Proof.Value.Rows.lean ====
/- One layer's share on a device, row by row, over the extended reals. -/
module

public import proofs.«01_k».proof.Proof.Ideal.Base
public import Idealize.ShloMosaic.Lib.Pointwise
public import Idealize.ShloMosaic.Lib.ValueIdx
public import Idealize.ShloMosaic.Lib.MatmulPlain

@[expose] public section

set_option maxRecDepth 16384

noncomputable section

namespace Cert.KernelIdeal.Mlp

open Idealize.ShloMosaic Idealize.ShloMosaic.TcCoe
open Cert.KernelIdeal Cert.KernelIdeal.Gen

/-- One entry of a two-matrix layer: `q` is the input's row, `a` and `b` the two weights. -/
def cell {H : ℕ} (q : Fin 512 → EReal) (a : Fin 512 → Fin H → EReal) (b : Fin H → EReal) : EReal :=
  ∑ h : Fin H, max (∑ k : Fin 512, q k * a k h) 0 * b h

/-- The layer's share on a device at row `r`, column `e`, of input rows `g`. -/
def share {n : ℕ} (g : Vec Ideal ⟨2, ![n, 512]⟩ .bf16) (a : Vec Ideal S512x1024 .f32) (b : Vec Ideal S1024x512 .f32)
    (r : Fin n) (e : Fin 512) : EReal :=
  cell (fun k => g (ix2 r k)) (fun k h => a (ix2 k h)) (fun h => b (ix2 h e))

theorem pay18_apply (g : Vec Ideal S64x512 .bf16) (a : Vec Ideal S512x1024 .f32) (b : Vec Ideal S1024x512 .f32)
    (r : Fin 64) (e : Fin 512) : k0_pay18 g a b (ix2 r e) = share g a b r e := by
  unfold share cell
  pointwise [k0_pay18]

theorem pay33_apply (g : Vec Ideal S256x512 .bf16) (a : Vec Ideal S512x1024 .f32) (b : Vec Ideal S1024x512 .f32)
    (r : Fin 256) (e : Fin 512) : k0_pay33 g a b (ix2 r e) = share g a b r e := by
  unfold share cell
  pointwise [k0_pay33]

theorem pay25_apply (g : Vec Ideal S128x512 .bf16) (a : Vec Ideal S512x1024 .f32) (b : Vec Ideal S1024x512 .f32)
    (r : Fin 128) (e : Fin 512) : k0_pay25 g a b (ix2 r e) = share g a b r e := by
  unfold share cell
  pointwise [k0_pay25]

theorem pay37_apply (g : Vec Ideal S64x512 .bf16) (a : Vec Ideal S512x1024 .f32) (b : Vec Ideal S1024x512 .f32)
    (r : Fin 64) (e : Fin 512) : k0_pay37 g a b (ix2 r e) = share g a b r e := by
  unfold share cell
  pointwise [k0_pay37]

theorem pay1_apply (v : Vec Ideal S64x512 .f32) (i : S64x512.Idx) : k0_pay1 v i = v i := by
  pointwise [k0_pay1]

theorem pay16_17_apply (v : FVec Ideal S64x512 .f32) (i : S64x512.Idx) : k0_pay17 (k0_pay16 v) i = v i := by
  pointwise [k0_pay16, k0_pay17]

theorem pay15_apply (v : Vec Ideal S16x64x512 .bf16) (r : Fin 64) (e : Fin 512) :
    k0_pay15 v (ix2 r e) = ∑ d : Fin 16, v (ix3 d r e) := by
  pointwise [k0_pay15]

theorem pay38_apply (v : Vec Ideal S16x64x512 .bf16) (r : Fin 64) (e : Fin 512) :
    k0_pay38 v (ix2 r e) = ∑ d : Fin 16, v (ix3 d r e) := by
  pointwise [k0_pay38]

/-- Where a rectangle of whole rows lands. -/
theorem rr_emb (o n : ℕ) (hi : ∀ a, (![o, 0] : Fin 2 → ℕ) a + (![n, 512] : Fin 2 → ℕ) a ≤ S1024x512.size a)
    (r : Fin 1024) (e : Fin 512) (s : Fin n) (h : r.val = o + s.val) :
    (rr o n hi).emb (ix2 s e : Shape.Idx ⟨2, ![n, 512]⟩) = (ix2 r e : S1024x512.Idx) := by
  funext x
  fin_cases x
  · refine Fin.ext ?_
    show o + 1 * s.val = r.val
    omega
  · refine Fin.ext ?_
    show 0 + 1 * e.val = e.val
    omega

/-- Rows sent through a payload that computes the share hold the share, whatever the rectangle. -/
theorem putg_apply (G : Vec Ideal S1024x512 .bf16) (a : Vec Ideal S512x1024 .f32) (b : Vec Ideal S1024x512 .f32)
    (o n : ℕ) (hi : ∀ a, (![o, 0] : Fin 2 → ℕ) a + (![n, 512] : Fin 2 → ℕ) a ≤ S1024x512.size a)
    (pay : Vec Ideal ⟨2, ![n, 512]⟩ .bf16 → Vec Ideal S512x1024 .f32 → Vec Ideal S1024x512 .f32 → FVec Ideal ⟨2, ![n, 512]⟩ .bf16)
    (rest : Vec Ideal S1024x512 .bf16)
    (hpay : ∀ g r e, pay g a b (ix2 r e) = share g a b r e) (r : Fin 1024) (e : Fin 512)
    (hrest : ¬ (o ≤ r.val ∧ r.val < o + n) → rest (ix2 r e) = share G a b r e) :
    putg G a b o n hi pay rest (ix2 r e) = share G a b r e := by
  by_cases h : o ≤ r.val ∧ r.val < o + n
  · have hs : r.val - o < n := by omega
    have hr : r.val = o + (⟨r.val - o, hs⟩ : Fin n).val := by show r.val = o + (r.val - o); omega
    rw [← rr_emb o n hi r e ⟨r.val - o, hs⟩ hr]
    unfold putg
    rw [(rr o n hi).emb.injective.extend_apply, hpay]
    unfold share
    simp only [rr_emb o n hi r _ ⟨r.val - o, hs⟩ hr]
  · unfold putg
    rw [Function.extend_apply', hrest h]
    rintro ⟨x, hx⟩
    refine h ?_
    have h0 : o + 1 * (x 0).val = r.val := congrArg Fin.val (congrFun hx 0)
    have h1 : (x 0).val < n := (x 0).isLt
    omega

/-- A device's partial results, row by row. -/
theorem partOf_apply (G : Vec Ideal S1024x512 .bf16) (a : Vec Ideal S512x1024 .f32) (b : Vec Ideal S1024x512 .f32)
    (r : Fin 1024) (e : Fin 512) : partOf G a b (ix2 r e) = share G a b r e := by
  have hr := r.isLt
  unfold partOf
  refine putg_apply G a b _ _ _ _ _ (fun g s f => pay18_apply g a b s f) r e fun h₁ => ?_
  refine putg_apply G a b _ _ _ _ _ (fun g s f => pay33_apply g a b s f) r e fun h₂ => ?_
  refine putg_apply G a b _ _ _ _ _ (fun g s f => pay33_apply g a b s f) r e fun h₃ => ?_
  refine putg_apply G a b _ _ _ _ _ (fun g s f => pay33_apply g a b s f) r e fun h₄ => ?_
  refine putg_apply G a b _ _ _ _ _ (fun g s f => pay25_apply g a b s f) r e fun h₅ => ?_
  refine putg_apply G a b _ _ _ _ _ (fun g s f => pay37_apply g a b s f) r e fun h₆ => ?_
  omega

end Cert.KernelIdeal.Mlp

end

end
-- ==== Proof.Value.Layers.lean ====
/- The layers of the kernel and of the reference, entry by entry, over the extended reals. -/
module

public import proofs.«01_k».proof.Proof.Value.Rows
public import proofs.«01_k».proof.Proof.Gen.ReferenceIdeal.Run
public import Idealize.ShloMosaic.Lib.Pipeline.ValueKit

@[expose] public section

set_option maxRecDepth 16384

noncomputable section

namespace Cert.KernelIdeal.Mlp

open Idealize.ShloMosaic Idealize.ShloMosaic.TcCoe
open Cert.KernelIdeal Cert.KernelIdeal.Gen

/-- Cutting the hidden axis into sixteen pieces of 1024 changes no entry. -/
theorem cell_split (q : Fin 512 → EReal) (a : Fin 512 → Fin 16384 → EReal) (b : Fin 16384 → EReal) :
    ∑ d : Fin 16, cell q (fun k (h : Fin 1024) => a k ⟨d.val * 1024 + h.val, by omega⟩) (fun h => b ⟨d.val * 1024 + h.val, by omega⟩)
      = cell q a b := by
  unfold cell
  exact Fin.sum_mul_add_fin 16 1024 (fun H : Fin 16384 => max (∑ k : Fin 512, q k * a k H) 0 * b H)

section
variable (m : (ℓ : Loc nD τ sig) → Buf (Elt Ideal) ℓ)

/-- A block's partial result from device `d`: the share of `d`'s weights on that block's own input row. -/
theorem RS_apply (k : ℕ) (p : Dev nD) (d : Fin 16) (a : Fin 64) (e : Fin 512) :
    RS m k p (ix3 d a e)
      = cell (fun q => X m k p (ix2 a q)) (fun q h => WI m k d (ix2 q h)) (fun h => WO m k d (ix2 h e)) := by
  have hp : p.val < 16 := p.isLt
  have hd : d.val < 16 := d.isLt
  have ha : a.val < 64 := a.isLt
  have hR : 64 * ((p.val + 16 - d.val) % 16) + a.val < 1024 := by omega
  refine (partOf_apply (XG m k d) (WI m k d) (WO m k d) ⟨64 * ((p.val + 16 - d.val) % 16) + a.val, hR⟩ e).trans ?_
  unfold share
  refine congrArg (fun f => cell f (fun q h => WI m k d (ix2 q h)) (fun h => WO m k d (ix2 h e))) (funext fun q => ?_)
  have hdev : (⟨(d.val + (64 * ((p.val + 16 - d.val) % 16) + a.val) / 64) % 16, Nat.mod_lt _ (by decide)⟩ : Dev nD) = p :=
    Fin.ext (by show (d.val + (64 * ((p.val + 16 - d.val) % 16) + a.val) / 64) % 16 = p.val; omega)
  have hrow : (⟨(64 * ((p.val + 16 - d.val) % 16) + a.val) % 64, Nat.mod_lt _ (by decide)⟩ : Fin 64) = a :=
    Fin.ext (by show (64 * ((p.val + 16 - d.val) % 16) + a.val) % 64 = a.val; omega)
  show X m k (⟨(d.val + (64 * ((p.val + 16 - d.val) % 16) + a.val) / 64) % 16, Nat.mod_lt _ (by decide)⟩ : Dev nD)
      (ValueIdx.ix2 (⟨(64 * ((p.val + 16 - d.val) % 16) + a.val) % 64, Nat.mod_lt _ (by decide)⟩ : Fin 64) q) = _
  rw [hdev, hrow]
  refine congrArg (X m k p) (funext fun x => ?_)
  fin_cases x <;> rfl

/-- The sixteen partial results of a row sum to the layer's entry over the whole weights. -/
theorem RS_sum (k : ℕ) (p : Dev nD) (a : Fin 64) (e : Fin 512)
    (A : Fin 512 → Fin 16384 → EReal) (B : Fin 16384 → Fin 512 → EReal)
    (hA : ∀ (d : Fin 16) q h, WI m k d (ix2 q h) = A q ⟨d.val * 1024 + h.val, by omega⟩)
    (hB : ∀ (d : Fin 16) h e, WO m k d (ix2 h e) = B ⟨d.val * 1024 + h.val, by omega⟩ e) :
    ∑ d : Fin 16, RS m k p (ix3 d a e) = cell (fun q => X m k p (ix2 a q)) A (fun H => B H e) := by
  rw [← cell_split]
  refine Finset.sum_congr rfl fun d _ => ?_
  rw [RS_apply]
  simp only [hA, hB]

theorem X_zero_apply (p : Dev nD) (i : S64x512.Idx) : X m 0 p i = xin m p i := pay1_apply _ _

theorem X_succ_apply (k : ℕ) (p : Dev nD) (a : Fin 64) (e : Fin 512) :
    X m (k + 1) p (ix2 a e) = ∑ d : Fin 16, RS m k p (ix3 d a e) := by
  rw [X_succ, pay16_17_apply, pay15_apply]

theorem OUT_apply (p : Dev nD) (a : Fin 64) (e : Fin 512) :
    OUT m p (ix2 a e) = ∑ d : Fin 16, RS m 2 p (ix3 d a e) := pay38_apply _ _ _

/-! Each input window is its whole array. -/

theorem xin_eq (c : Dev nD) : xin m c = m ((c : Thread nD τ).loc main_arg0) := by
  funext i
  refine congrArg (m ((c : Thread nD τ).loc main_arg0)) (show (win0_0.blk (0 : Fin 1)).view.emb i = i from ?_)
  blk_ext [win0_0]
  · show 0 * 64 + (i 0).val = (i 0).val; omega
  · show 0 * 512 + (i 1).val = (i 1).val; omega
theorem wi0_eq (c : Dev nD) : wi0 m c = m ((c : Thread nD τ).loc main_arg1) := by
  funext i
  refine congrArg (m ((c : Thread nD τ).loc main_arg1)) (show (win0_1.blk (0 : Fin 1)).view.emb i = i from ?_)
  blk_ext [win0_1]
  · show 0 * 512 + (i 0).val = (i 0).val; omega
  · show 0 * 1024 + (i 1).val = (i 1).val; omega
theorem wo0_eq (c : Dev nD) : wo0 m c = m ((c : Thread nD τ).loc main_arg4) := by
  funext i
  refine congrArg (m ((c : Thread nD τ).loc main_arg4)) (show (win0_2.blk (0 : Fin 1)).view.emb i = i from ?_)
  blk_ext [win0_2]
  · show 0 * 1024 + (i 0).val = (i 0).val; omega
  · show 0 * 512 + (i 1).val = (i 1).val; omega
theorem wi1_eq (c : Dev nD) : wi1 m c = m ((c : Thread nD τ).loc main_arg2) := by
  funext i
  refine congrArg (m ((c : Thread nD τ).loc main_arg2)) (show (win0_3.blk (0 : Fin 1)).view.emb i = i from ?_)
  blk_ext [win0_3]
  · show 0 * 512 + (i 0).val = (i 0).val; omega
  · show 0 * 1024 + (i 1).val = (i 1).val; omega
theorem wo1_eq (c : Dev nD) : wo1 m c = m ((c : Thread nD τ).loc main_arg5) := by
  funext i
  refine congrArg (m ((c : Thread nD τ).loc main_arg5)) (show (win0_4.blk (0 : Fin 1)).view.emb i = i from ?_)
  blk_ext [win0_4]
  · show 0 * 1024 + (i 0).val = (i 0).val; omega
  · show 0 * 512 + (i 1).val = (i 1).val; omega
theorem wi2_eq (c : Dev nD) : wi2 m c = m ((c : Thread nD τ).loc main_arg3) := by
  funext i
  refine congrArg (m ((c : Thread nD τ).loc main_arg3)) (show (win0_5.blk (0 : Fin 1)).view.emb i = i from ?_)
  blk_ext [win0_5]
  · show 0 * 512 + (i 0).val = (i 0).val; omega
  · show 0 * 1024 + (i 1).val = (i 1).val; omega
theorem wo2_eq (c : Dev nD) : wo2 m c = m ((c : Thread nD τ).loc main_arg6) := by
  funext i
  refine congrArg (m ((c : Thread nD τ).loc main_arg6)) (show (win0_6.blk (0 : Fin 1)).view.emb i = i from ?_)
  blk_ext [win0_6]
  · show 0 * 1024 + (i 0).val = (i 0).val; omega
  · show 0 * 512 + (i 1).val = (i 1).val; omega

end

end Cert.KernelIdeal.Mlp

namespace Cert.ReferenceIdeal.Value

open Idealize.ShloMosaic Cert.ReferenceIdeal Cert.ReferenceIdeal.Gen

/-- One layer of the reference. -/
def refLayer (y : FVec Ideal S1024x512 .f32) (A : FVec Ideal S512x16384 .f32) (B : FVec Ideal S16384x512 .f32) : FVec Ideal S1024x512 .f32 :=
  Host.dotGeneral dot_S1024x16384_S16384x512_S1024x512_1_0_0_1_n_n none
    (maximumf (Host.dotGeneral dot_S1024x512_S512x16384_S1024x16384_1_0_0_1_n_n none y A)
      (broadcastInDim S1024x16384 ![] bcast_S_S1024x16384 (constant S_ .f32 0x00000000#32))) B

theorem refLayer_apply (y : FVec Ideal S1024x512 .f32) (A : FVec Ideal S512x16384 .f32) (B : FVec Ideal S16384x512 .f32)
    (r : Fin 1024) (e : Fin 512) :
    refLayer y A B (ix2 r e) = Cert.KernelIdeal.Mlp.cell (fun k => y (ix2 r k)) (fun k h => A (ix2 k h)) (fun h => B (ix2 h e)) := by
  unfold Cert.KernelIdeal.Mlp.cell
  pointwise [refLayer]

end Cert.ReferenceIdeal.Value

end

end
-- ==== Proof.Value.Equation.lean ====
/- The kernel's result on each device is that device's block of the reference's result. -/
module

public import proofs.«01_k».proof.Proof.Value.Layers
public import Idealize.ShloMosaic.Lib.Layout

@[expose] public section

set_option maxRecDepth 16384

noncomputable section

namespace Cert.KernelIdeal.Mlp

open Idealize.ShloMosaic Idealize.ShloMosaic.TcCoe
open Cert.KernelIdeal Cert.KernelIdeal.Gen
open Cert.ReferenceIdeal.Value (refLayer refLayer_apply)

/-! ## Blocks by coordinates -/

theorem block_x (v : (⟨2, ![1024, 512]⟩ : Shape).Idx → EReal) (c : Fin 16) (a : Fin 64) (q : Fin 512) :
    (Layout.block ⟨2, ![64, 512]⟩ ⟨2, ![1024, 512]⟩ 0 16 c v) (ix2 a q) = v (ix2 ⟨c.val * 64 + a.val, by omega⟩ q) := by
  refine congrArg v (funext fun x => ?_)
  fin_cases x <;> rfl

theorem block_in (v : (⟨2, ![512, 16384]⟩ : Shape).Idx → EReal) (c : Fin 16) (q : Fin 512) (h : Fin 1024) :
    (Layout.block ⟨2, ![512, 1024]⟩ ⟨2, ![512, 16384]⟩ 1 16 c v) (ix2 q h) = v (ix2 q ⟨c.val * 1024 + h.val, by omega⟩) := by
  refine congrArg v (funext fun x => ?_)
  fin_cases x <;> rfl

theorem block_out (v : (⟨2, ![16384, 512]⟩ : Shape).Idx → EReal) (c : Fin 16) (h : Fin 1024) (e : Fin 512) :
    (Layout.block ⟨2, ![1024, 512]⟩ ⟨2, ![16384, 512]⟩ 0 16 c v) (ix2 h e) = v (ix2 ⟨c.val * 1024 + h.val, by omega⟩ e) := by
  refine congrArg v (funext fun x => ?_)
  fin_cases x <;> rfl

/-! ## The layers -/

variable (m : (ℓ : Loc nD τ sig) → Buf (Elt Ideal) ℓ)

/-- If the devices hold the blocks of a layer's whole input and whole weights, the sums of their partial results are
    the blocks of the reference's layer. -/
theorem layer_block (k : ℕ) (y : Vec Ideal ⟨2, ![1024, 512]⟩ .f32) (A : Vec Ideal ⟨2, ![512, 16384]⟩ .f32)
    (B : Vec Ideal ⟨2, ![16384, 512]⟩ .f32)
    (hy : ∀ (p : Fin 16) a q, X m k p (ix2 a q) = y (ix2 ⟨p.val * 64 + a.val, by omega⟩ q))
    (hA : ∀ c : Fin 16, WI m k c = Layout.block ⟨2, ![512, 1024]⟩ ⟨2, ![512, 16384]⟩ 1 16 c A)
    (hB : ∀ c : Fin 16, WO m k c = Layout.block ⟨2, ![1024, 512]⟩ ⟨2, ![16384, 512]⟩ 0 16 c B)
    (p : Fin 16) (a : Fin 64) (e : Fin 512) :
    ∑ d : Fin 16, RS m k p (ix3 d a e) = refLayer y A B (ix2 ⟨p.val * 64 + a.val, by omega⟩ e) := by
  rw [refLayer_apply, RS_sum m k p a e (fun q H => A (ix2 q H)) (fun H e => B (ix2 H e))
    (fun d q h => (congrFun (hA d) _).trans (block_in A d q h)) (fun d h e => (congrFun (hB d) _).trans (block_out B d h e))]
  simp only [hy]

/-- The whole kernel against the whole reference. -/
theorem OUT_eq (x : Vec Ideal ⟨2, ![1024, 512]⟩ .f32) (A₀ A₁ A₂ : Vec Ideal ⟨2, ![512, 16384]⟩ .f32)
    (B₀ B₁ B₂ : Vec Ideal ⟨2, ![16384, 512]⟩ .f32)
    (hx : ∀ c : Dev nD, m ((c : Thread nD τ).loc main_arg0) = Layout.block ⟨2, ![64, 512]⟩ ⟨2, ![1024, 512]⟩ 0 16 c x)
    (hA₀ : ∀ c : Dev nD, m ((c : Thread nD τ).loc main_arg1) = Layout.block ⟨2, ![512, 1024]⟩ ⟨2, ![512, 16384]⟩ 1 16 c A₀)
    (hA₁ : ∀ c : Dev nD, m ((c : Thread nD τ).loc main_arg2) = Layout.block ⟨2, ![512, 1024]⟩ ⟨2, ![512, 16384]⟩ 1 16 c A₁)
    (hA₂ : ∀ c : Dev nD, m ((c : Thread nD τ).loc main_arg3) = Layout.block ⟨2, ![512, 1024]⟩ ⟨2, ![512, 16384]⟩ 1 16 c A₂)
    (hB₀ : ∀ c : Dev nD, m ((c : Thread nD τ).loc main_arg4) = Layout.block ⟨2, ![1024, 512]⟩ ⟨2, ![16384, 512]⟩ 0 16 c B₀)
    (hB₁ : ∀ c : Dev nD, m ((c : Thread nD τ).loc main_arg5) = Layout.block ⟨2, ![1024, 512]⟩ ⟨2, ![16384, 512]⟩ 0 16 c B₁)
    (hB₂ : ∀ c : Dev nD, m ((c : Thread nD τ).loc main_arg6) = Layout.block ⟨2, ![1024, 512]⟩ ⟨2, ![16384, 512]⟩ 0 16 c B₂)
    (c : Dev nD) :
    OUT m c = Layout.block ⟨2, ![64, 512]⟩ ⟨2, ![1024, 512]⟩ 0 16 c (refLayer (refLayer (refLayer x A₀ B₀) A₁ B₁) A₂ B₂) := by
  have h₀ : ∀ (p : Fin 16) (a : Fin 64) (q : Fin 512), X m 0 p (ix2 a q) = x (ix2 ⟨p.val * 64 + a.val, by omega⟩ q) := fun p a q => by
    rw [X_zero_apply, xin_eq, hx]; exact block_x x p a q
  have s₀ := layer_block m 0 x A₀ B₀ h₀ (fun d => (wi0_eq m d).trans (hA₀ d)) (fun d => (wo0_eq m d).trans (hB₀ d))
  have s₁ := layer_block m 1 _ A₁ B₁ (fun p a q => (X_succ_apply m 0 p a q).trans (s₀ p a q))
    (fun d => (wi1_eq m d).trans (hA₁ d)) (fun d => (wo1_eq m d).trans (hB₁ d))
  have s₂ := layer_block m 2 _ A₂ B₂ (fun p a q => (X_succ_apply m 1 p a q).trans (s₁ p a q))
    (fun d => (wi2_eq m d).trans (hA₂ d)) (fun d => (wo2_eq m d).trans (hB₂ d))
  funext i
  rw [eq_ix2 i]
  exact (OUT_apply m c (i 0) (i 1)).trans ((s₂ c (i 0) (i 1)).trans (block_x _ c (i 0) (i 1)).symm)

end Cert.KernelIdeal.Mlp

end

end
-- ==== Proof.lean ====
/- The proof of the certificate's claim: the frames of the kernel at both instances, the reference's frame, and the
   equation of the two results, block by block. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Word.Final
public import proofs.«01_k».proof.Proof.Ideal.Final
public import proofs.«01_k».proof.Proof.Value.Equation
public import Idealize.ShloMosaic.Adequacy
public import Idealize.ShloMosaic.Init

@[expose] public section

noncomputable section

namespace Cert.Proof

open Idealize.ShloMosaic Idealize.SL.Sem

/-- The reference launches no kernel and declares no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the three layers' result. -/
theorem result : @Cert.algebraic_KernelIdeal_ReferenceIdeal Cert.KernelIdeal.Gen.facts Cert.ReferenceIdeal.Gen.facts := by
  intro m ρ m' ρ' _ hag
  refine ⟨_, (θ_run Cert.KernelIdeal.defs _ _).mono (fun r h c =>
      ⟨((h.1 c (7 : Fin 8)).trans (Cert.KernelIdeal.Mlp.final_out m ρ c)).trans
        (Cert.KernelIdeal.Mlp.OUT_eq m _ _ _ _ _ _ _ (fun c => (hag c).1) (fun c => (hag c).2.1) (fun c => (hag c).2.2.1)
          (fun c => (hag c).2.2.2.1) (fun c => (hag c).2.2.2.2.1) (fun c => (hag c).2.2.2.2.2.1) (fun c => (hag c).2.2.2.2.2.2) c),
        Cert.KernelIdeal.Mlp.kept_of m ρ r h.1 c⟩)
      (Cert.KernelIdeal.Mlp.run_main m ρ),
    (θ_run Cert.ReferenceIdeal.defs _ _).mono (fun r h => h 0) (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Mlp.frame m ρ, fun m ρ _ => Cert.KernelIdeal.Mlp.frame m ρ, frame_reference, trivial, result⟩

end Cert.Proof

end
